-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v1_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_v1_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1_0) = v0 c
          ∧ r.2.mem ((c.tc : Thread Cert.ReferenceIdeal.nD Cert.ReferenceIdeal.τ).loc Cert.ReferenceIdeal.main_v1_1) = v1 c
          ∧ r.2.mem ((c.tc : Thread Cert.ReferenceIdeal.nD Cert.ReferenceIdeal.τ).loc Cert.ReferenceIdeal.main_v1_2) = v2 c
          ∧ r.2.mem ((c.tc : Thread Cert.ReferenceIdeal.nD Cert.ReferenceIdeal.τ).loc Cert.ReferenceIdeal.main_v1_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x4096x4608 : Shape := ⟨3, ![4, 4096, 4608]⟩
abbrev S4608x2048 : Shape := ⟨2, ![4608, 2048]⟩
abbrev S36x16 : Shape := ⟨2, ![36, 16]⟩
abbrev S16384x4608 : Shape := ⟨2, ![16384, 4608]⟩
abbrev S16384x1024 : Shape := ⟨2, ![16384, 1024]⟩
abbrev S16384x8 : Shape := ⟨2, ![16384, 8]⟩
abbrev S16384x36 : Shape := ⟨2, ![16384, 36]⟩
abbrev S256x4608 : Shape := ⟨2, ![256, 4608]⟩
abbrev S256x1024 : Shape := ⟨2, ![256, 1024]⟩
abbrev S256x8 : Shape := ⟨2, ![256, 8]⟩
abbrev S256x36 : Shape := ⟨2, ![256, 36]⟩
abbrev S1x1 : Shape := ⟨2, ![1, 1]⟩
abbrev S128x128 : Shape := ⟨2, ![128, 128]⟩
abbrev S256x128 : Shape := ⟨2, ![256, 128]⟩
abbrev S256 : Shape := ⟨1, ![256]⟩
abbrev S256x1 : Shape := ⟨2, ![256, 1]⟩
abbrev S256x252 : Shape := ⟨2, ![256, 252]⟩
abbrev S4608x256 : Shape := ⟨2, ![4608, 256]⟩
abbrev S256x256 : Shape := ⟨2, ![256, 256]⟩

abbrev nBuf : Space → Nat
  | .hbm => 8
  | .vmem => 13
  | .smem => 1
  | _ => 0

abbrev bufTy : (tb : Table) → Fin (tcTables nBuf tb) → BufTy
  | .hbm, ⟨0, _⟩ => ⟨S4x4096x4608, .bf16⟩
  | .hbm, ⟨1, _⟩ => ⟨S4608x2048, .fp8e4m3⟩
  | .hbm, ⟨2, _⟩ => ⟨S36x16, .f32⟩
  | .hbm, ⟨3, _⟩ => ⟨S16384x4608, .bf16⟩
  | .hbm, ⟨4, _⟩ => ⟨S16384x1024, .fp8e4m3⟩
  | .hbm, ⟨5, _⟩ => ⟨S16384x8, .f32⟩
  | .hbm, ⟨6, _⟩ => ⟨S16384x4608, .fp8e4m3⟩
  | .hbm, ⟨7, _⟩ => ⟨S16384x36, .f32⟩
  | .local _ .vmem, ⟨0, _⟩ => ⟨S256x4608, .bf16⟩
  | .local _ .vmem, ⟨1, _⟩ => ⟨S256x4608, .bf16⟩
  | .local _ .vmem, ⟨2, _⟩ => ⟨S4608x2048, .fp8e4m3⟩
  | .local _ .vmem, ⟨3, _⟩ => ⟨S256x1024, .fp8e4m3⟩
  | .local _ .vmem, ⟨4, _⟩ => ⟨S256x1024, .fp8e4m3⟩
  | .local _ .vmem, ⟨5, _⟩ => ⟨S256x8, .f32⟩
  | .local _ .vmem, ⟨6, _⟩ => ⟨S256x8, .f32⟩
  | .local _ .vmem, ⟨7, _⟩ => ⟨S256x4608, .fp8e4m3⟩
  | .local _ .vmem, ⟨8, _⟩ => ⟨S256x4608, .fp8e4m3⟩
  | .local _ .vmem, ⟨9, _⟩ => ⟨S256x36, .f32⟩
  | .local _ .vmem, ⟨10, _⟩ => ⟨S256x36, .f32⟩
  | .local _ .vmem, ⟨11, _⟩ => ⟨S4608x2048, .bf16⟩
  | .local _ .vmem, ⟨12, _⟩ => ⟨S256x4608, .bf16⟩
  | .local _ .smem, ⟨0, _⟩ => ⟨S36x16, .f32⟩
  | _, _ => ⟨S4x4096x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_stg2_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4608 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4608x2048 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S36x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x8 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4608 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x36 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S4x4096x4608 : Shape := ⟨3, ![4, 4096, 4608]⟩
abbrev S4608x2048 : Shape := ⟨2, ![4608, 2048]⟩
abbrev S36x16 : Shape := ⟨2, ![36, 16]⟩
abbrev S16384x4608 : Shape := ⟨2, ![16384, 4608]⟩
abbrev S16384x1024 : Shape := ⟨2, ![16384, 1024]⟩
abbrev S16384x8 : Shape := ⟨2, ![16384, 8]⟩
abbrev S16384x36 : Shape := ⟨2, ![16384, 36]⟩
abbrev S16384x36x128 : Shape := ⟨3, ![16384, 36, 128]⟩
abbrev S16384x36x1 : Shape := ⟨3, ![16384, 36, 1]⟩
abbrev S36x128x16x128 : Shape := ⟨4, ![36, 128, 16, 128]⟩
abbrev S36x1x16x1 : Shape := ⟨4, ![36, 1, 16, 1]⟩
abbrev S16384x2048 : Shape := ⟨2, ![16384, 2048]⟩
abbrev S16384x8x128 : Shape := ⟨3, ![16384, 8, 128]⟩
abbrev S16384x8x1 : Shape := ⟨3, ![16384, 8, 1]⟩

abbrev nBuf : Space → Nat
  | .hbm => 8
  | .vmem => 7
  | .smem => 0
  | _ => 0

abbrev bufTy : (tb : Table) → Fin (tcTables nBuf tb) → BufTy
  | .hbm, ⟨0, _⟩ => ⟨S4x4096x4608, .bf16⟩
  | .hbm, ⟨1, _⟩ => ⟨S4608x2048, .fp8e4m3⟩
  | .hbm, ⟨2, _⟩ => ⟨S36x16, .f32⟩
  | .hbm, ⟨3, _⟩ => ⟨S16384x4608, .bf16⟩
  | .hbm, ⟨4, _⟩ => ⟨S16384x1024, .fp8e4m3⟩
  | .hbm, ⟨5, _⟩ => ⟨S16384x8, .f32⟩
  | .hbm, ⟨6, _⟩ => ⟨S16384x4608, .fp8e4m3⟩
  | .hbm, ⟨7, _⟩ => ⟨S16384x36, .f32⟩
  | .local _ .vmem, ⟨0, _⟩ => ⟨S16384x4608, .bf16⟩
  | .local _ .vmem, ⟨1, _⟩ => ⟨S4608x2048, .fp8e4m3⟩
  | .local _ .vmem, ⟨2, _⟩ => ⟨S36x16, .f32⟩
  | .local _ .vmem, ⟨3, _⟩ => ⟨S16384x1024, .fp8e4m3⟩
  | .local _ .vmem, ⟨4, _⟩ => ⟨S16384x8, .f32⟩
  | .local _ .vmem, ⟨5, _⟩ => ⟨S16384x4608, .fp8e4m3⟩
  | .local _ .vmem, ⟨6, _⟩ => ⟨S16384x36, .f32⟩
  | _, _ => ⟨S4x4096x4608, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S16384x4608 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4608x2048 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S36x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16384x1024 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16384x8 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16384x4608 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16384x36 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Quant.lean ====
/- The mathematics of the power-of-two quantiser, over the extended reals.

   A group of values has the number `p` = (its largest magnitude) / 448.  The kernel finds the exponent of its scale by
   counting the powers of two from `2^(-126)` to `2^125` that are at most `p`; the reference takes a logarithm.  The two
   exponents are the same number (`qexp_eq`), so that both the scale and its reciprocal agree. -/
module

public import Idealize.ShloMosaic.Lib.Pointwise
public import Mathlib.Analysis.SpecialFunctions.Log.Basic
public import Mathlib.Analysis.SpecialFunctions.Pow.Real

@[expose] public section

noncomputable section

namespace Cert.Quant

open Idealize.ShloMosaic

/-- The power of two `2 ^ k`, as an extended real. -/
def pow2 (k : ℤ) : EReal := (((2 : ℝ) ^ k : ℝ) : EReal)

theorem pow2_le_pow2 {a b : ℤ} (h : a ≤ b) : pow2 a ≤ pow2 b :=
  EReal.coe_le_coe_iff.2 (zpow_le_zpow_right₀ (by norm_num) h)

/-- The fields of the word with exponent field `n` and nothing else. -/
theorem fields (n : Fin 255) : ((BitVec.ofNat 32 n.val <<< 23).extractLsb' 31 1 == 1#1) = false
    ∧ ((BitVec.ofNat 32 n.val <<< 23).extractLsb' 23 8).toNat = n.val
    ∧ ((BitVec.ofNat 32 n.val <<< 23).extractLsb' 0 23).toNat = 0 := by
  revert n; decide +kernel

/-- The word with exponent field `n` and nothing else denotes `2 ^ (n - 127)`. -/
theorem ofBits_field (n : ℕ) (h1 : 1 ≤ n) (h2 : n ≤ 254) :
    Ideal.ofBits .f32 (BitVec.ofNat 32 n <<< 23) = pow2 ((n : ℤ) - 127) := by
  have h := fields ⟨n, by omega⟩
  have hs := h.1
  have he := h.2.1
  have hf := h.2.2
  clear h
  generalize hw : BitVec.ofNat 32 n <<< 23 = w
  simp only [hw] at hs he hf
  unfold Ideal.ofBits Ideal.ieee
  simp only [FTy.bits, Nat.reduceAdd]
  rw [hs, he, hf, if_neg (by omega), if_neg (by omega)]
  unfold pow2
  congr 1
  simp only [Bool.false_eq_true, if_false, one_mul, add_zero]
  rw [show ((n : ℤ) - (2 ^ (8 - 1) - 1) - (23 : ℕ)) = ((n : ℤ) - 127) - 23 by norm_num, zpow_sub₀ (by norm_num)]
  push_cast
  field_simp
  norm_num

/-- How many of the powers `2^(-126), …, 2^125` are at most `p`. -/
def cnt (p : EReal) : ℕ := (Finset.univ.filter fun l : Fin 252 => pow2 ((l.val : ℤ) - 126) ≤ p).card

theorem cnt_le (p : EReal) : cnt p ≤ 252 := by
  refine (Finset.card_le_univ _).trans ?_
  simp

/-- The exponent field of the scale's half: the count, or 126 for a group whose `p` is below every power. -/
def nOf (p : EReal) : ℕ := if cnt p = 0 then 126 else cnt p

theorem nOf_pos (p : EReal) : 1 ≤ nOf p := by unfold nOf; split <;> omega

theorem nOf_le (p : EReal) : nOf p ≤ 252 := by have := cnt_le p; unfold nOf; split <;> omega

/-- The scale's exponent, as the reference states it. -/
def qexp (p : EReal) : EReal :=
  if p < Ideal.ofBits .f32 0x00800000#32 then Ideal.ofBits .f32 0x00000000#32
  else min (Ideal.liftRound Int.floor (Ideal.div (Ideal.log p) (Ideal.log (Ideal.ofBits .f32 0x40000000#32)))
    + Ideal.ofBits .f32 0x3F800000#32) (Ideal.ofBits .f32 0x42FC0000#32)

theorem const_min : Ideal.ofBits .f32 0x00800000#32 = pow2 (-126) := ofBits_field 1 (by omega) (by omega)

theorem const_two : Ideal.ofBits .f32 0x40000000#32 = ((2 : ℝ) : EReal) := by
  have h := ofBits_field 128 (by omega) (by omega)
  rw [show (0x40000000#32 : BitVec 32) = BitVec.ofNat 32 128 <<< 23 by decide, h]
  unfold pow2; norm_num

theorem const_126 : Ideal.ofBits .f32 0x42FC0000#32 = ((126 : ℝ) : EReal) := by
  simp [Ideal.ofBits, Ideal.ieee, -EReal.coe_mul]; norm_num

/-- The powers at most a positive real `r` are those up to the floor of its logarithm. -/
theorem pow2_le_iff {r : ℝ} (hr : 0 < r) (k : ℤ) : pow2 k ≤ (r : EReal) ↔ k ≤ ⌊Real.log r / Real.log 2⌋ := by
  unfold pow2
  rw [EReal.coe_le_coe_iff, Int.le_floor, le_div_iff₀ (Real.log_pos (by norm_num)), ← Real.log_zpow,
    Real.log_le_log_iff (by positivity) hr]

theorem card_lt (M : ℕ) : (Finset.univ.filter fun l : Fin 252 => l.val < M).card = min 252 M := by
  by_cases h : M < 252
  · rw [min_eq_right h.le]
    have h2 : (Finset.univ.filter fun l : Fin 252 => l.val < M) = Finset.Iio (⟨M, h⟩ : Fin 252) := by
      ext l; simp [Fin.lt_def]
    rw [h2, Fin.card_Iio]
  · rw [min_eq_left (by omega), Finset.filter_true_of_mem (fun l _ => by have := l.isLt; omega)]
    simp

/-- The count and the logarithm give one exponent. -/
theorem qexp_eq (p : EReal) : qexp p = ((((nOf p : ℤ) - 126 : ℤ) : ℝ) : EReal) := by
  unfold qexp
  rw [const_min, const_two, const_126, Ideal.ofBits_zero_f32, Ideal.ofBits_one_f32]
  by_cases hp : p < pow2 (-126)
  · have h0 : cnt p = 0 := by
      unfold cnt
      rw [Finset.card_eq_zero, Finset.filter_eq_empty_iff]
      intro l _ h
      exact absurd (hp.trans_le (pow2_le_pow2 (by omega : (-126 : ℤ) ≤ (l.val : ℤ) - 126))) (not_lt.2 h)
    rw [if_pos hp]
    unfold nOf
    rw [if_pos h0]
    norm_num
  · rw [if_neg hp]
    have hp' : pow2 (-126) ≤ p := not_lt.1 hp
    have hpos : 0 < Real.log 2 := Real.log_pos (by norm_num)
    have hlog2 : Ideal.log ((2 : ℝ) : EReal) = ((Real.log 2 : ℝ) : EReal) := by
      show (if (2 : ℝ) ≤ 0 then (⊥ : EReal) else _) = _
      rw [if_neg (by norm_num)]
    rw [hlog2]
    induction p using EReal.rec with
    | bot => exact absurd hp' (by unfold pow2; simp)
    | top =>
      have hc : cnt ⊤ = 252 := by
        unfold cnt
        rw [Finset.filter_true_of_mem (fun l _ => le_top)]
        simp
      have hd : Ideal.div (Ideal.log ⊤) ((Real.log 2 : ℝ) : EReal) = ⊤ := by
        show Ideal.div ⊤ _ = _
        unfold Ideal.div
        rw [if_neg (by exact_mod_cast hpos.ne'), ← EReal.coe_inv]
        exact EReal.top_mul_coe_of_pos (inv_pos.2 hpos)
      rw [hd]
      show min ((⊤ : EReal) + 1) _ = _
      unfold nOf
      rw [hc, EReal.top_add_of_ne_bot (by decide), min_eq_right le_top]
      norm_num
    | coe r =>
      have hr : 0 < r := lt_of_lt_of_le (by positivity) (EReal.coe_le_coe_iff.1 hp')
      have hk : (-126 : ℤ) ≤ ⌊Real.log r / Real.log 2⌋ := (pow2_le_iff hr _).1 hp'
      obtain ⟨M, hM⟩ : ∃ M : ℕ, ⌊Real.log r / Real.log 2⌋ = (M : ℤ) - 126 := ⟨(⌊Real.log r / Real.log 2⌋ + 126).toNat, by omega⟩
      have hc : cnt (r : EReal) = min 252 (M + 1) := by
        rw [← card_lt]
        unfold cnt
        congr 1
        refine Finset.filter_congr fun l _ => ?_
        rw [pow2_le_iff hr, hM]
        omega
      have hd : Ideal.div (Ideal.log (r : EReal)) ((Real.log 2 : ℝ) : EReal) = ((Real.log r / Real.log 2 : ℝ) : EReal) := by
        have : Ideal.log (r : EReal) = ((Real.log r : ℝ) : EReal) := by
          show (if r ≤ 0 then (⊥ : EReal) else _) = _
          rw [if_neg (not_le.2 hr)]
        rw [this]
        unfold Ideal.div
        rw [if_neg (by exact_mod_cast hpos.ne'), ← EReal.coe_inv, ← EReal.coe_mul]
        rfl
      rw [hd]
      show min (((⌊Real.log r / Real.log 2⌋ : ℝ) : EReal) + 1) _ = _
      unfold nOf
      rw [hc, hM, if_neg (by omega), ← EReal.coe_one, ← EReal.coe_add, ← EReal.coe_strictMono.monotone.map_min]
      congr 1
      push_cast
      rcases le_total 252 (M + 1) with h | h
      · have h' : (252 : ℝ) ≤ (M : ℝ) + 1 := by exact_mod_cast h
        rw [min_eq_left h', min_eq_right (by linarith)]
        norm_num
      · have h' : (M : ℝ) + 1 ≤ 252 := by exact_mod_cast h
        rw [min_eq_right h', min_eq_left (by linarith)]
        ring

/-- The scale: two to the exponent. -/
def qscale (p : EReal) : EReal := Ideal.exp2 (qexp p)

/-- The scale's reciprocal. -/
def qinv (p : EReal) : EReal := Ideal.exp2 (Ideal.ofBits .f32 0x00000000#32 - qexp p)

theorem exp2_int (k : ℤ) : Ideal.exp2 (((k : ℝ)) : EReal) = pow2 k := by
  show ((Real.rpow 2 (k : ℝ) : ℝ) : EReal) = _
  unfold pow2
  congr 1
  exact Real.rpow_intCast 2 k

theorem qscale_eq (p : EReal) : qscale p = pow2 ((nOf p : ℤ) - 126) := by
  unfold qscale; rw [qexp_eq, exp2_int]

theorem qinv_eq (p : EReal) : qinv p = pow2 (126 - (nOf p : ℤ)) := by
  unfold qinv
  rw [qexp_eq, Ideal.ofBits_zero_f32, zero_sub, ← EReal.coe_neg, ← Int.cast_neg, exp2_int]
  congr 1; ring

/-- A sum of zeros and ones, as a word, is the number of ones. -/
theorem fold_ones {n : ℕ} (P : Fin n → Prop) [DecidablePred P] (T : Finset (Fin n)) :
    (T.fold IntOp.addi (0#32) fun l => if P l then 1#32 else 0#32) = BitVec.ofNat 32 (T.filter P).card := by
  induction T using Finset.induction_on with
  | empty => rfl
  | insert a T ha ih =>
    rw [Finset.fold_insert ha, ih, Finset.filter_insert]
    by_cases h : P a
    · rw [if_pos h, if_pos h, Finset.card_insert_of_notMem (fun h' => ha (Finset.mem_filter.1 h').1), Nat.add_comm]
      exact (BitVec.ofNat_add _ _).symm
    · rw [if_neg h, if_neg h]
      exact BitVec.zero_add _

/-- The count as the word the kernel sums. -/
theorem fold_cnt (p : EReal) :
    (Finset.univ.fold IntOp.addi (0#32) fun l : Fin 252 => if pow2 ((l.val : ℤ) - 126) ≤ p then 1#32 else 0#32)
      = BitVec.ofNat 32 (cnt p) := fold_ones _ _

/-- The field the kernel goes on with, as a word. -/
def fieldWord (p : EReal) : BitVec 32 := BitVec.ofNat 32 (nOf p) <<< 23

theorem select_word (n : Fin 253) :
    (if BitVec.ofNat 32 n.val <<< 23 = 0#32 then 1056964608#32 else BitVec.ofNat 32 n.val <<< 23)
      = BitVec.ofNat 32 (if n.val = 0 then 126 else n.val) <<< 23 := by
  revert n; decide +kernel

theorem select_field (p : EReal) :
    (if BitVec.ofNat 32 (cnt p) <<< 23 = 0#32 then 1056964608#32 else BitVec.ofNat 32 (cnt p) <<< 23) = fieldWord p :=
  select_word ⟨cnt p, by have := cnt_le p; omega⟩

theorem words (n : Fin 253) : BitVec.ofNat 32 n.val <<< 23 + 8388608#32 = BitVec.ofNat 32 (n.val + 1) <<< 23
    ∧ 2122317824#32 - BitVec.ofNat 32 n.val <<< 23 = BitVec.ofNat 32 (253 - n.val) <<< 23 := by
  revert n; decide +kernel

/-- The kernel's scale is the reference's. -/
theorem scale_bits (p : EReal) : Ideal.ofBits .f32 (fieldWord p + 8388608#32) = qscale p := by
  have h := nOf_le p
  unfold fieldWord
  rw [(words ⟨nOf p, by omega⟩).1, ofBits_field _ (by omega) (by show nOf p + 1 ≤ 254; omega), qscale_eq]
  congr 1
  push_cast
  ring

/-- The kernel's reciprocal scale is the reference's. -/
theorem inv_bits (p : EReal) : Ideal.ofBits .f32 (2122317824#32 - fieldWord p) = qinv p := by
  have h := nOf_le p
  have h1 := nOf_pos p
  unfold fieldWord
  rw [(words ⟨nOf p, by omega⟩).2, ofBits_field _ (by show 1 ≤ 253 - nOf p; omega) (by show 253 - nOf p ≤ 254; omega), qinv_eq]
  congr 1
  show ((253 - nOf p : ℕ) : ℤ) - 127 = _
  omega

/-- The thresholds the kernel compares with: word `l + 1` shifted into the exponent. -/
theorem threshold (l : Fin 252) : Ideal.ofBits .f32 ((BitVec.ofNat 32 l.val + 1#32) <<< 23) = pow2 ((l.val : ℤ) - 126) := by
  rw [show (BitVec.ofNat 32 l.val + 1#32) = BitVec.ofNat 32 (l.val + 1) from (BitVec.ofNat_add _ _).symm,
    ofBits_field _ (by omega) (by omega)]
  congr 1
  push_cast
  ring

end Cert.Quant

end
-- ==== Proof.Spec.lean ====
/- What the four results hold, as functions of one token's row of activations, over the extended reals.

   Both programs compute these functions; the proofs meet here.  A row is `Fin N → EReal`; its groups are the 128
   consecutive entries from `128 * g`. -/
module

public import proofs.«01_k».proof.Proof.Quant

@[expose] public section

noncomputable section

namespace Cert.Spec

open Idealize.ShloMosaic Cert.Quant

/-- Group `g` of a row. -/
def grp {N : ℕ} (v : Fin N → EReal) (g : ℕ) : Fin 128 → EReal :=
  fun l => if h : 128 * g + l.val < N then v ⟨128 * g + l.val, h⟩ else 0

/-- A group's largest magnitude divided by 448 (a multiplication by the constant nearest to 1/448). -/
def gp (a : Fin 128 → EReal) : EReal :=
  Finset.univ.fold max (Ideal.ofBits .f32 0xFF800000#32) (fun l => FloatOps.absf (F := Ideal) (φ := .f32) (a l))
    * Ideal.ofBits .f32 0x3B124925#32

/-- One value of a group, quantised: scaled by the reciprocal scale and clipped to ±448. -/
def clip (p v : EReal) : EReal :=
  min (Ideal.ofBits .f32 0x43E00000#32) (max (Ideal.ofBits .f32 0xC3E00000#32) (v * qinv p))

/-- The scale of group `g` of a row. -/
def scale {N : ℕ} (v : Fin N → EReal) (g : ℕ) : EReal := qscale (gp (grp v g))

/-- The code at position `k` of a row. -/
def code {N : ℕ} (v : Fin N → EReal) (k : Fin N) : EReal := clip (gp (grp v (k.val / 128))) (v k)

/-- The dequantised row. -/
def xbar {N : ℕ} (v : Fin N → EReal) (k : Fin N) : EReal := code v k * scale v (k.val / 128)

/-- The dequantised weights: each 128×128 tile times its scale. -/
def wbar (W : Fin 4608 → Fin 2048 → EReal) (S : Fin 36 → Fin 16 → EReal) (k : Fin 4608) (j : Fin 2048) : EReal :=
  W k j * S ⟨k.val / 128, by omega⟩ ⟨j.val / 128, by omega⟩

/-- The product of the dequantised row and column `j` of the dequantised weights. -/
def dot (x : Fin 4608 → EReal) (B : Fin 4608 → Fin 2048 → EReal) (j : Fin 2048) : EReal := ∑ k, xbar x k * B k j

/-- The tanh form of the GELU of `g`, times `u`. -/
def geglu (g u : EReal) : EReal :=
  g * (Ideal.ofBits .f32 0x3F000000#32 * (1 + Ideal.tanh (Ideal.ofBits .f32 0x3F4C422A#32
    * (g + Ideal.ofBits .f32 0x3D372713#32 * (g * (g * g)))))) * u

/-- The hidden row: gate columns are the first 1024, up columns the last 1024. -/
def hrow (x : Fin 4608 → EReal) (B : Fin 4608 → Fin 2048 → EReal) (f : Fin 1024) : EReal :=
  geglu (dot x B ⟨f.val, by omega⟩) (dot x B ⟨1024 + f.val, by omega⟩)

/-- A group whose entries are read at `128 * g + l`. -/
theorem grp_eq {N : ℕ} (v : Fin N → EReal) (g : ℕ) (a : Fin 128 → EReal) (hN : 128 * g + 128 ≤ N)
    (h : ∀ l : Fin 128, a l = v ⟨128 * g + l.val, by omega⟩) : grp v g = a := by
  funext l
  unfold grp
  rw [dif_pos (by omega), h]

end Cert.Spec

end
-- ==== Proof.Tiles.lean ====
/- What the kernel's tile computations hold at an index: the quantiser on a tile of 128 columns, and the products
   with the GELU.  The kernel repeats each of them for every group; these are the statements for one group. -/
module

public import proofs.«01_k».proof.Proof.Gen.KernelIdeal.Frame
public import Idealize.ShloMosaic.Lib.Pipeline.ReadBack
public import Idealize.ShloMosaic.Lib.Pointwise
public import proofs.«01_k».proof.Proof.Spec

@[expose] public section

set_option maxRecDepth 16384

noncomputable section

namespace Cert.KernelIdeal.Tiles

open Idealize.ShloMosaic Idealize.ShloMosaic.Tactic Cert.KernelIdeal Cert.KernelIdeal.Gen Cert.Quant Cert.Spec

/-- A selected word, by cases on an equality of words. -/
theorem select_eq (a b x y : BitVec 32) : Scalar.select (IntOp.cmpi .eq a b) x y = if a = b then x else y := by
  unfold Scalar.select IntOp.cmpi
  by_cases h : a = b
  · simp [h]
  · have h' : (a == b) = false := by simpa using h
    simp [h, h']

/-- The words the kernel makes from a group's count: the field it goes on with. -/
theorem field_word (p : EReal) :
    Scalar.select (IntOp.cmpi .eq (IntOp.shli .vector (Finset.univ.fold IntOp.addi (0#32) fun l : Fin 252 =>
        if Ideal.ofBits .f32 (IntOp.shli .vector (IntOp.addi (BitVec.ofNat 32 l.val) 1#32) 23#32) ≤ p then 1#32 else 0#32) 23#32) 0#32)
      (1056964608#32)
      (IntOp.shli .vector (Finset.univ.fold IntOp.addi (0#32) fun l : Fin 252 =>
        if Ideal.ofBits .f32 (IntOp.shli .vector (IntOp.addi (BitVec.ofNat 32 l.val) 1#32) 23#32) ≤ p then 1#32 else 0#32) 23#32)
      = fieldWord p := by
  have hs : ∀ x : BitVec 32, IntOp.shli .vector x 23#32 = x <<< 23 := fun x => by
    unfold IntOp.shli; simp
  have ht : ∀ l : Fin 252, Ideal.ofBits .f32 (IntOp.shli .vector (IntOp.addi (BitVec.ofNat 32 l.val) 1#32) 23#32)
      = pow2 ((l.val : ℤ) - 126) := fun l => by rw [hs]; exact threshold l
  simp only [ht]
  simp only [hs, fold_cnt]
  rw [select_eq, select_field]

/-- The field of the group in row `r` of a tile of activations. -/
theorem xfield (a : Vec Ideal S256x128 .bf16) (r : Fin 256) :
    k0_pay695 a (ix2 r 0) = fieldWord (gp fun l => a (ix2 r l)) := by
  unfold k0_pay695 k0_pay694
  pointwise
  exact field_word _

/-- The scale of the group in row `r` of a tile of activations. -/
theorem xscale (a : Vec Ideal S256x128 .bf16) (r : Fin 256) :
    k0_pay696 a (ix2 r 0) = qscale (gp fun l => a (ix2 r l)) := by
  unfold k0_pay696
  pointwise
  rw [xfield]
  exact scale_bits _

/-- The codes of a tile of activations. -/
theorem xcode (a : Vec Ideal S256x128 .bf16) (r : Fin 256) (l : Fin 128) :
    k0_pay698 (k0_pay697 a) (ix2 r l) = clip (gp fun l => a (ix2 r l)) (a (ix2 r l)) := by
  unfold k0_pay698 k0_pay697 k0_pay694
  pointwise
  rw [xfield]
  unfold clip
  rw [← inv_bits]
  rfl

/-- The dequantised tile of activations. -/
theorem xdeq (a : Vec Ideal S256x128 .bf16) (r : Fin 256) (l : Fin 128) :
    k0_pay699 (k0_pay696 a) (k0_pay697 a) (ix2 r l)
      = clip (gp fun l => a (ix2 r l)) (a (ix2 r l)) * qscale (gp fun l => a (ix2 r l)) := by
  rw [← xcode, ← xscale]
  unfold k0_pay699
  pointwise

/-- The field of the group in row `r` of a tile of hidden values. -/
theorem hfield (a : FVec Ideal S256x128 .f32) (r : Fin 256) :
    k0_pay1009 a (ix2 r 0) = fieldWord (gp fun l => a (ix2 r l)) := by
  unfold k0_pay1009
  pointwise
  exact field_word _

/-- The scale of the group in row `r` of a tile of hidden values, spread over the scales' lanes. -/
theorem hscale (a : FVec Ideal S256x128 .f32) (r : Fin 256) (g : Fin 8) :
    k0_pay1012 a (ix2 r g) = qscale (gp fun l => a (ix2 r l)) := by
  unfold k0_pay1012
  pointwise
  rw [hfield]
  exact scale_bits _

/-- The codes of a tile of hidden values. -/
theorem hcode (a : FVec Ideal S256x128 .f32) (r : Fin 256) (l : Fin 128) :
    k0_pay1010 a (ix2 r l) = clip (gp fun l => a (ix2 r l)) (a (ix2 r l)) := by
  unfold k0_pay1010
  pointwise
  rw [hfield]
  unfold clip
  rw [← inv_bits]
  rfl

/-- The two products and the GELU on 256 columns. -/
theorem htile (a : Vec Ideal S256x4608 .bf16) (b b' : Vec Ideal S4608x256 .bf16) (r l : Fin 256) :
    k0_pay1002 a b a b' (ix2 r l)
      = geglu (∑ k, a (ix2 r k) * b (ix2 k l)) (∑ k, a (ix2 r k) * b' (ix2 k l)) := by
  unfold k0_pay1002 geglu
  pointwise

/-- A tile of weights times its scale. -/
theorem wdeq (s : Elt Ideal .f32) (w : Vec Ideal S128x128 .fp8e4m3) (r l : Fin 128) :
    k0_pay1 s w (ix2 r l) = w (ix2 r l) * s := by
  unfold k0_pay1
  pointwise

end Cert.KernelIdeal.Tiles

end
-- ==== Proof.Pieces.lean ====
/- Each store of the kernel's body writes a tile of one function of the block: the codes, the dequantised activations and
   the dequantised weights.  One lemma per kind of store, at any tile. -/
module

public import proofs.«01_k».proof.Proof.Tiles

@[expose] public section

set_option maxRecDepth 16384

noncomputable section

namespace Cert.KernelIdeal.Pieces

open Idealize.ShloMosaic Idealize.ShloMosaic.Tactic Cert.KernelIdeal Cert.KernelIdeal.Gen Cert.Quant Cert.Spec

/-- Row `r` of a block of activations. -/
def xrow (x : Vec Ideal S256x4608 .bf16) (r : Fin 256) : Fin 4608 → EReal := fun k => x (ix2 r k)

/-- The codes of a block of activations. -/
def codes (x : Vec Ideal S256x4608 .bf16) : S256x4608.Idx → Elt Ideal .fp8e4m3 := fun y => code (xrow x (y 0)) (y 1)

/-- The block of activations, dequantised. -/
def deqs (x : Vec Ideal S256x4608 .bf16) : S256x4608.Idx → Elt Ideal .bf16 := fun y => xbar (xrow x (y 0)) (y 1)

/-- The weights, dequantised. -/
def wdeqs (w : Vec Ideal S4608x2048 .fp8e4m3) (s : Vec Ideal S36x16 .f32) : S4608x2048.Idx → Elt Ideal .bf16 :=
  fun y => wbar (fun k j => w (ix2 k j)) (fun g n => s (ix2 g n)) (y 0) (y 1)

section

variable (x : Vec Ideal S256x4608 .bf16) (o : ℕ) (ho : o % 128 = 0)
  (inb : ∀ a : Fin 2, (![0, o] : Fin 2 → ℕ) a + S256x128.size a ≤ S256x4608.size a)

include ho

/-- The group a tile of 128 columns holds. -/
theorem tile_grp (r : Fin 256) :
    grp (xrow x r) (o / 128) = fun l => View.ld (Val := Elt Ideal) x (Rect.unit (s := S256x4608) ![0, o] S256x128.size inb) (ix2 r l) := by
  have h1 : o + 128 ≤ 4608 := inb 1
  refine grp_eq _ _ _ (by omega) fun l => ?_
  unfold xrow
  refine congrArg x ?_
  funext a
  apply Fin.ext
  match a with
  | ⟨0, _⟩ => show 0 + 1 * r.val = r.val; omega
  | ⟨1, _⟩ => show o + 1 * l.val = 128 * (o / 128) + l.val; omega

theorem code_piece (y : S256x128.Idx) :
    k0_pay698 (F := Ideal) (k0_pay697 (View.ld (Val := Elt Ideal) x (Rect.unit (s := S256x4608) ![0, o] S256x128.size inb))) y
      = codes x ((Rect.unit (s := S256x4608) ![0, o] S256x128.size inb).emb y) := by
  obtain ⟨r, l, rfl⟩ : ∃ r l, y = ix2 r l := ⟨y 0, y 1, eq_ix2 y⟩
  rw [Tiles.xcode, ← tile_grp x o ho inb r]
  have h1 : o + 128 ≤ 4608 := inb 1
  have e0 : (Rect.unit (s := S256x4608) ![0, o] S256x128.size inb).emb (ix2 r l) 0 = r :=
    Fin.ext (by show 0 + 1 * r.val = r.val; omega)
  have e1 : ((Rect.unit (s := S256x4608) ![0, o] S256x128.size inb).emb (ix2 r l) 1).val = o + l.val := by
    show o + 1 * l.val = _; omega
  unfold codes code
  rw [e0, e1, show (o + l.val) / 128 = o / 128 by omega]
  refine congrArg _ ?_
  unfold xrow
  refine congrArg x ?_
  exact (eq_ix2 _).trans (congrArg (fun t => ix2 t _) e0)

theorem deq_piece (y : S256x128.Idx) :
    k0_pay699 (F := Ideal) (k0_pay696 (View.ld (Val := Elt Ideal) x (Rect.unit (s := S256x4608) ![0, o] S256x128.size inb)))
        (k0_pay697 (View.ld (Val := Elt Ideal) x (Rect.unit (s := S256x4608) ![0, o] S256x128.size inb))) y
      = deqs x ((Rect.unit (s := S256x4608) ![0, o] S256x128.size inb).emb y) := by
  have hc := code_piece x o ho inb y
  obtain ⟨r, l, rfl⟩ : ∃ r l, y = ix2 r l := ⟨y 0, y 1, eq_ix2 y⟩
  rw [Tiles.xdeq, ← Tiles.xcode, hc, ← tile_grp x o ho inb r]
  have h1 : o + 128 ≤ 4608 := inb 1
  have e0 : (Rect.unit (s := S256x4608) ![0, o] S256x128.size inb).emb (ix2 r l) 0 = r :=
    Fin.ext (by show 0 + 1 * r.val = r.val; omega)
  have e1 : ((Rect.unit (s := S256x4608) ![0, o] S256x128.size inb).emb (ix2 r l) 1).val = o + l.val := by
    show o + 1 * l.val = _; omega
  unfold deqs xbar codes scale
  rw [e0, e1, show (o + l.val) / 128 = o / 128 by omega]

/-- The scale a tile's group has, in the tile's row `r`. -/
theorem scale_tile (r : Fin 256) :
    k0_pay696 (F := Ideal) (View.ld (Val := Elt Ideal) x (Rect.unit (s := S256x4608) ![0, o] S256x128.size inb)) (ix2 r 0)
      = scale (xrow x r) (o / 128) := by
  rw [Tiles.xscale, ← tile_grp x o ho inb r]
  rfl

end

/-- A tile of the weights times its scale is a tile of the dequantised weights. -/
theorem wdeq_piece (w : Vec Ideal S4608x2048 .fp8e4m3) (s : Vec Ideal S36x16 .f32) (p q g n : ℕ) (hp : p = 128 * g) (hq : q = 128 * n)
    (inb : ∀ a : Fin 2, (![p, q] : Fin 2 → ℕ) a + S128x128.size a ≤ S4608x2048.size a)
    (v : Elt Ideal .f32) (hg : g < 36) (hn : n < 16) (hv : v = s (ix2 ⟨g, hg⟩ ⟨n, hn⟩)) (y : S128x128.Idx) :
    k0_pay1 (F := Ideal) v (View.ld (Val := Elt Ideal) w (Rect.unit (s := S4608x2048) ![p, q] S128x128.size inb)) y
      = wdeqs w s ((Rect.unit (s := S4608x2048) ![p, q] S128x128.size inb).emb y) := by
  obtain ⟨r, l, rfl⟩ : ∃ r l, y = ix2 r l := ⟨y 0, y 1, eq_ix2 y⟩
  subst hv hp hq
  rw [Tiles.wdeq]
  have e0 : ((Rect.unit (s := S4608x2048) ![128 * g, 128 * n] S128x128.size inb).emb (ix2 r l) 0).val = 128 * g + r.val := by
    show 128 * g + 1 * r.val = _; omega
  have e1 : ((Rect.unit (s := S4608x2048) ![128 * g, 128 * n] S128x128.size inb).emb (ix2 r l) 1).val = 128 * n + l.val := by
    show 128 * n + 1 * l.val = _; omega
  unfold wdeqs wbar
  have a0 : (⟨((Rect.unit (s := S4608x2048) ![128 * g, 128 * n] S128x128.size inb).emb (ix2 r l) 0).val / 128, by omega⟩ : Fin 36) = ⟨g, hg⟩ :=
    Fin.ext (by show _ / 128 = g; omega)
  have a1 : (⟨((Rect.unit (s := S4608x2048) ![128 * g, 128 * n] S128x128.size inb).emb (ix2 r l) 1).val / 128, by omega⟩ : Fin 16) = ⟨n, hn⟩ :=
    Fin.ext (by show _ / 128 = n; omega)
  rw [a0, a1]
  refine congrArg (· * _) ?_
  refine congrArg w ?_
  exact eq_ix2 _

/-! The same, for a tile loaded from a whole buffer. -/

section

variable (arg1 : Memref sig .tc .vmem S256x4608 .bf16) (harg1 : arg1.IsWhole) (x : Vec Ideal S256x4608 .bf16) (o : ℕ)
  (ho : o % 128 = 0) (inb : ∀ a : Fin 2, (![0, o] : Fin 2 → ℕ) a + S256x128.size a ≤ S256x4608.size a)

include ho

theorem code_load (y : S256x128.Idx) :
    k0_pay698 (F := Ideal) (k0_pay697 (View.readAt (Elt Ideal) arg1.view
        (Rect.unit (s := S256x4608) ![0, o] S256x128.size inb).toLoadRect (harg1.unread x))) y
      = codes x ((Rect.unit (s := S256x4608) ![0, o] S256x128.size inb).emb y) := by
  rw [View.readAt_eq_ld, harg1.read_unread]
  exact code_piece x o ho inb y

theorem deq_load (y : S256x128.Idx) :
    k0_pay699 (F := Ideal) (k0_pay696 (View.readAt (Elt Ideal) arg1.view
        (Rect.unit (s := S256x4608) ![0, o] S256x128.size inb).toLoadRect (harg1.unread x)))
      (k0_pay697 (View.readAt (Elt Ideal) arg1.view
        (Rect.unit (s := S256x4608) ![0, o] S256x128.size inb).toLoadRect (harg1.unread x))) y
      = deqs x ((Rect.unit (s := S256x4608) ![0, o] S256x128.size inb).emb y) := by
  rw [View.readAt_eq_ld, harg1.read_unread]
  exact deq_piece x o ho inb y

theorem scale_load (r : Fin 256) :
    k0_pay696 (F := Ideal) (View.readAt (Elt Ideal) arg1.view
        (Rect.unit (s := S256x4608) ![0, o] S256x128.size inb).toLoadRect (harg1.unread x)) (ix2 r 0)
      = scale (xrow x r) (o / 128) := by
  rw [View.readAt_eq_ld, harg1.read_unread]
  exact scale_tile x o ho inb r

end

theorem wdeq_load (arg2 : Memref sig .tc .vmem S4608x2048 .fp8e4m3) (harg2 : arg2.IsWhole) (arg3 : Memref sig .tc .smem S36x16 .f32)
    (harg3 : arg3.IsWhole) (w : Vec Ideal S4608x2048 .fp8e4m3) (s : Vec Ideal S36x16 .f32) (g n p q : ℕ) (hg : g < 36) (hn : n < 16)
    (hp : p = 128 * g) (hq : q = 128 * n)
    (inb : ∀ a : Fin 2, (![p, q] : Fin 2 → ℕ) a + S128x128.size a ≤ S4608x2048.size a)
    (inb' : ∀ a : Fin 2, (![g, n] : Fin 2 → ℕ) a + S1x1.size a ≤ S36x16.size a) (h1 : _) (y : S128x128.Idx) :
    k0_pay1 (F := Ideal) (View.readAt (Elt Ideal) arg3.view (Rect.unit (s := S36x16) ![g, n] S1x1.size inb').toLoadRect (harg3.unread s)
        (Shape.Idx.first h1))
      (View.readAt (Elt Ideal) arg2.view (Rect.unit (s := S4608x2048) ![p, q] S128x128.size inb).toLoadRect (harg2.unread w)) y
      = wdeqs w s ((Rect.unit (s := S4608x2048) ![p, q] S128x128.size inb).emb y) := by
  rw [View.readAt_eq_ld, View.readAt_eq_ld, harg2.read_unread, harg3.read_unread]
  refine wdeq_piece w s p q g n hp hq inb _ hg hn ?_ y
  refine congrArg s ?_
  funext a
  apply Fin.ext
  match a with
  | ⟨0, _⟩ => rfl
  | ⟨1, _⟩ => rfl

/-! The scales: one store, whose value is a chain of selections, one per group. -/

/-- The first `n` lanes of a vector hold the first `n` groups' scales of the block's rows. -/
def Good {N : ℕ} {M : ℕ} (row : Fin 256 → Fin M → EReal) (n : ℕ) (V : (⟨2, ![256, N]⟩ : Shape).Idx → EReal) : Prop :=
  ∀ (r : Fin 256) (g : Fin N), g.val < n → V (ix2 r g) = scale (row r) g.val

theorem good_zero {N M : ℕ} (row : Fin 256 → Fin M → EReal) (V : (⟨2, ![256, N]⟩ : Shape).Idx → EReal) : Good row 0 V :=
  fun _ _ h => absurd h (Nat.not_lt_zero _)

theorem lane_word {N : ℕ} (hN : N ≤ 36) (g : Fin N) (n : ℕ) (hn : n < 36) (x y : EReal) :
    Scalar.select (IntOp.cmpi .eq (BitVec.ofNat 32 g.val) (BitVec.ofNat 32 n)) x y = if g.val = n then x else y := by
  unfold Scalar.select IntOp.cmpi
  have hg := g.isLt
  by_cases h : g.val = n
  · simp [h]
  · have h' : (BitVec.ofNat 32 g.val == BitVec.ofNat 32 n) = false := by
      rw [beq_eq_false_iff_ne]
      intro e
      have := congrArg BitVec.toNat e
      rw [BitVec.toNat_ofNat, BitVec.toNat_ofNat, Nat.mod_eq_of_lt (by omega), Nat.mod_eq_of_lt (by omega)] at this
      exact h this
    simp [h, h']

theorem step_x (row : Fin 256 → Fin 4608 → EReal) (n : ℕ) (hn : n < 36) (lane : IVec S256x36 32)
    (hl : lane = iota .tc S256x36 32 [1] iota_S256x36_d1_w32) (V : FVec Ideal S256x36 .f32) (sc sc' : FVec Ideal S256x1 .f32) (c : BitVec 32)
    (hc : c = BitVec.ofNat 32 n) (hsc : sc = sc') (hs : ∀ r, sc' (ix2 r 0) = scale (row r) n) (hV : Good (N := 36) row n V) :
    Good (N := 36) row (n + 1) (k0_pay952 (F := Ideal) lane V sc c) := by
  subst hl hc hsc
  intro r g hg
  unfold k0_pay952
  pointwise
  rw [lane_word (by omega) g n hn]
  split
  · next h => rw [hs, h]
  · next h => exact hV r g (by omega)

theorem step_h (row : Fin 256 → Fin 1024 → EReal) (n : ℕ) (hn : n < 36) (lane : IVec S256x8 32)
    (hl : lane = iota .tc S256x8 32 [1] iota_S256x8_d1_w32) (V : FVec Ideal S256x8 .f32) (sc sc' : FVec Ideal S256x1 .f32) (c : BitVec 32)
    (hc : c = BitVec.ofNat 32 n) (hsc : sc = sc') (hs : ∀ r, sc' (ix2 r 0) = scale (row r) n) (hV : Good (N := 8) row n V) :
    Good (N := 8) row (n + 1) (k0_pay971 (F := Ideal) lane V sc c) := by
  subst hl hc hsc
  intro r g hg
  unfold k0_pay971
  pointwise
  rw [lane_word (by omega) g n hn]
  split
  · next h => rw [hs, h]
  · next h => exact hV r g (by omega)

theorem good_piece {N M : ℕ} (row : Fin 256 → Fin M → EReal)
    (inb : ∀ a : Fin 2, (![0, 0] : Fin 2 → ℕ) a + (![256, N] : Fin 2 → ℕ) a ≤ (⟨2, ![256, N]⟩ : Shape).size a)
    (V : (⟨2, ![256, N]⟩ : Shape).Idx → EReal) (hV : Good row N V) (y : (⟨2, ![256, N]⟩ : Shape).Idx) :
    V y = (fun z : (⟨2, ![256, N]⟩ : Shape).Idx => scale (row (z 0)) (z 1).val)
      ((Rect.unit (s := ⟨2, ![256, N]⟩) ![0, 0] ![256, N] inb).emb y) := by
  obtain ⟨r, l, rfl⟩ : ∃ r l, y = ix2 r l := ⟨y 0, y 1, eq_ix2 y⟩
  rw [hV r l l.isLt]
  have e0 : (Rect.unit (s := ⟨2, ![256, N]⟩) ![0, 0] ![256, N] inb).emb (ix2 r l) 0 = r :=
    Fin.ext (by show 0 + 1 * r.val = r.val; omega)
  have e1 : ((Rect.unit (s := ⟨2, ![256, N]⟩) ![0, 0] ![256, N] inb).emb (ix2 r l) 1).val = l.val := by
    show 0 + 1 * l.val = l.val; omega
  show _ = scale _ _
  rw [e0, e1]

theorem w_load (arg8 : Memref sig .tc .vmem S4608x2048 .bf16) (harg8 : arg8.IsWhole) (B : Vec Ideal S4608x2048 .bf16) (o : ℕ)
    (inb : ∀ a : Fin 2, (![0, o] : Fin 2 → ℕ) a + S4608x256.size a ≤ S4608x2048.size a) :
    View.readAt (Elt Ideal) arg8.view (Rect.unit (s := S4608x2048) ![0, o] S4608x256.size inb).toLoadRect (harg8.unread B)
      = View.ld (Val := Elt Ideal) B (Rect.unit (s := S4608x2048) ![0, o] S4608x256.size inb) := by
  rw [View.readAt_eq_ld, harg8.read_unread]

/-! The hidden values. -/

/-- Row `r` of the hidden values of a block of activations, the dequantised weights being `B`. -/
def hidden (x : Vec Ideal S256x4608 .bf16) (B : S4608x2048.Idx → Elt Ideal .bf16) (r : Fin 256) : Fin 1024 → EReal :=
  hrow (xrow x r) (fun k j => B (ix2 k j))

/-- The codes of the hidden values of a block. -/
def hcodes (x : Vec Ideal S256x4608 .bf16) (B : S4608x2048.Idx → Elt Ideal .bf16) : S256x1024.Idx → Elt Ideal .fp8e4m3 :=
  fun y => code (hidden x B (y 0)) (y 1)

/-- The scales of the activations of a block, group by group. -/
def xscales (x : Vec Ideal S256x4608 .bf16) : S256x36.Idx → Elt Ideal .f32 :=
  fun y => scale (xrow x (y 0)) (y 1).val

/-- The scales of the hidden values of a block, group by group. -/
def hscales (x : Vec Ideal S256x4608 .bf16) (B : S4608x2048.Idx → Elt Ideal .bf16) : S256x8.Idx → Elt Ideal .f32 :=
  fun y => scale (hidden x B (y 0)) (y 1).val

/-- The scales of a tile of hidden values, as a column. -/
def hsc (a : FVec Ideal S256x128 .f32) : FVec Ideal S256x1 .f32 :=
  bitcastToFloat .f32 (addi (k0_pay1009 a) (broadcast S256x1 8388608#32))

theorem hsc_apply (a : FVec Ideal S256x128 .f32) (r : Fin 256) : hsc a (ix2 r 0) = qscale (gp fun l => a (ix2 r l)) := by
  unfold hsc
  pointwise
  rw [Tiles.hfield]
  exact scale_bits _

section

variable (x : Vec Ideal S256x4608 .bf16) (B : S4608x2048.Idx → Elt Ideal .bf16) (o p q : ℕ) (ho : p = 1024 + o)
  (inb : ∀ a : Fin 2, (![0, o] : Fin 2 → ℕ) a + S4608x256.size a ≤ S4608x2048.size a)
  (inb' : ∀ a : Fin 2, (![0, p] : Fin 2 → ℕ) a + S4608x256.size a ≤ S4608x2048.size a)
  (X : Vec Ideal S256x4608 .bf16) (b b' : Vec Ideal S4608x256 .bf16) (hX : X = deqs x)
  (hb : b = View.ld (Val := Elt Ideal) B (Rect.unit (s := S4608x2048) ![0, o] S4608x256.size inb))
  (hb' : b' = View.ld (Val := Elt Ideal) B (Rect.unit (s := S4608x2048) ![0, p] S4608x256.size inb'))

include ho hX hb hb'

/-- The products and the GELU on the 256 columns from `o` are those columns of the hidden values. -/
theorem h_tile (r l : Fin 256) (h : o + l.val < 1024) :
    k0_pay1002 X b X b' (ix2 r l) = hidden x B r ⟨o + l.val, h⟩ := by
  rw [Tiles.htile]
  unfold hidden hrow dot
  have e : ∀ k : Fin 4608, X (ix2 r k) = xbar (xrow x r) k := fun k => by rw [hX]; rfl
  have f : ∀ (k : Fin 4608) (hh : o + l.val < 2048), b (ix2 k l) = B (ix2 k ⟨o + l.val, hh⟩) := fun k hh => by
    rw [hb]
    refine congrArg B ?_
    funext a; apply Fin.ext
    match a with
    | ⟨0, _⟩ => show 0 + 1 * k.val = k.val; omega
    | ⟨1, _⟩ => show o + 1 * l.val = o + l.val; omega
  have f' : ∀ (k : Fin 4608) (hh : 1024 + (o + l.val) < 2048), b' (ix2 k l) = B (ix2 k ⟨1024 + (o + l.val), hh⟩) := fun k hh => by
    rw [hb']
    refine congrArg B ?_
    funext a; apply Fin.ext
    match a with
    | ⟨0, _⟩ => show 0 + 1 * k.val = k.val; omega
    | ⟨1, _⟩ => show p + 1 * l.val = 1024 + (o + l.val); omega
  refine congrArg₂ _ ?_ ?_
  · exact Finset.sum_congr rfl fun k _ => by rw [e, f k (by omega)]
  · exact Finset.sum_congr rfl fun k _ => by rw [e, f' k (by omega)]

/-- Their first 128 columns. -/
theorem h_lo (hq : q = o) (h1 : o + 256 ≤ 1024) (r : Fin 256) (l : Fin 128) (h : q + l.val < 1024) :
    k0_pay1003 X b X b' (ix2 r l) = hidden x B r ⟨q + l.val, h⟩ := by
  subst hq
  have := h_tile x B q p ho inb inb' X b b' hX hb hb' r ⟨l.val, by omega⟩ h
  rw [← this]
  unfold k0_pay1003
  pointwise

/-- Their last 128 columns. -/
theorem h_hi (hq : q = o + 128) (h1 : o + 256 ≤ 1024) (r : Fin 256) (l : Fin 128) (h : q + l.val < 1024) :
    k0_pay1008 (k0_pay1002 X b X b') (ix2 r l) = hidden x B r ⟨q + l.val, h⟩ := by
  subst hq
  have := h_tile x B o p ho inb inb' X b b' hX hb hb' r ⟨128 + l.val, by omega⟩ (by simp only; omega)
  unfold k0_pay1008
  pointwise
  rw [this]
  exact congrArg _ (Fin.ext (by show o + (128 + l.val) = o + 128 + l.val; omega))

end

section

variable (v : Fin 256 → Fin 1024 → EReal) (q : ℕ) (hq : q % 128 = 0)
  (inb : ∀ a : Fin 2, (![0, q] : Fin 2 → ℕ) a + S256x128.size a ≤ S256x1024.size a) (a : FVec Ideal S256x128 .f32)
  (ha : ∀ (r : Fin 256) (l : Fin 128) (h : q + l.val < 1024), a (ix2 r l) = v r ⟨q + l.val, h⟩)

include hq ha

theorem tile_hgrp (h1 : q + 128 ≤ 1024) (r : Fin 256) : grp (v r) (q / 128) = fun l => a (ix2 r l) :=
  grp_eq _ _ _ (by omega) fun l => by
    rw [ha r l (by omega)]
    exact congrArg _ (Fin.ext (by show q + l.val = 128 * (q / 128) + l.val; omega))

/-- The codes of a tile of hidden values. -/
theorem hcode_piece (y : S256x128.Idx) :
    k0_pay1010 a y = code (v ((Rect.unit (s := S256x1024) ![0, q] S256x128.size inb).emb y 0))
      ((Rect.unit (s := S256x1024) ![0, q] S256x128.size inb).emb y 1) := by
  obtain ⟨r, l, rfl⟩ : ∃ r l, y = ix2 r l := ⟨y 0, y 1, eq_ix2 y⟩
  have h1 : q + 128 ≤ 1024 := inb 1
  rw [Tiles.hcode, ← tile_hgrp v q hq a ha h1 r, ha r l (by omega)]
  have e0 : (Rect.unit (s := S256x1024) ![0, q] S256x128.size inb).emb (ix2 r l) 0 = r :=
    Fin.ext (by show 0 + 1 * r.val = r.val; omega)
  have e1 : (Rect.unit (s := S256x1024) ![0, q] S256x128.size inb).emb (ix2 r l) 1 = (⟨q + l.val, by omega⟩ : Fin 1024) :=
    Fin.ext (by show q + 1 * l.val = q + l.val; omega)
  have e2 : (q + l.val) / 128 = q / 128 := by omega
  rw [e0, e1]
  unfold code
  rw [e2]

/-- The scales of a tile of hidden values. -/
theorem hscale_piece (h1 : q + 128 ≤ 1024) (r : Fin 256) : hsc a (ix2 r 0) = scale (v r) (q / 128) := by
  rw [hsc_apply, ← tile_hgrp v q hq a ha h1 r]
  rfl

end

end Cert.KernelIdeal.Pieces

end
-- ==== Proof.BlockA.lean ====
module
public import proofs.«01_k».proof.Proof.Pieces
@[expose] public section
set_option maxRecDepth 16384
noncomputable section
namespace Cert.KernelIdeal.BlockA
open Idealize.ShloMosaic Idealize.ShloMosaic.TcCoe Idealize.ShloMosaic.Tactic Cert.KernelIdeal Cert.KernelIdeal.Gen
open Cert.KernelIdeal.Pieces Cert.Spec

/-! What the first grid point, which also dequantises the weights, leaves in each buffer. -/

variable (c : Dev nD) (i : grid0.Coords) (arg1 : Memref sig .tc .vmem S256x4608 .bf16) (harg1 : arg1.IsWhole) (arg2 : Memref sig .tc .vmem S4608x2048 .fp8e4m3) (harg2 : arg2.IsWhole) (arg3 : Memref sig .tc .smem S36x16 .f32) (harg3 : arg3.IsWhole) (arg4 : Memref sig .tc .vmem S256x1024 .fp8e4m3) (harg4 : arg4.IsWhole) (arg5 : Memref sig .tc .vmem S256x8 .f32) (harg5 : arg5.IsWhole) (arg6 : Memref sig .tc .vmem S256x4608 .fp8e4m3) (harg6 : arg6.IsWhole) (arg7 : Memref sig .tc .vmem S256x36 .f32) (harg7 : arg7.IsWhole) (arg8 : Memref sig .tc .vmem S4608x2048 .bf16) (harg8 : arg8.IsWhole) (arg9 : Memref sig .tc .vmem S256x4608 .bf16) (harg9 : arg9.IsWhole)
  (x0 : Vec Ideal S256x4608 .bf16) (x1 : Vec Ideal S4608x2048 .fp8e4m3) (x2 : Vec Ideal S36x16 .f32)

set_option maxHeartbeats 8000000 in
/-- The dequantised weights are stored tile by tile. -/
theorem weights_pieces : View.PiecesOf (Val := Elt Ideal) (e := .bf16) (wdeqs x1 x2) (kernelRun0_A.sl.HS0_576 c arg2 harg2 arg3 harg3 x1 x2) := by
  unfold kernelRun0_A.sl.HS0_576; dsimp only
  repeat' (first | exact trivial | refine ⟨wdeq_load arg2 harg2 arg3 harg3 x1 x2 _ _ _ _ (by decide) (by decide) (by decide) (by decide) _ _ _, ?_⟩)

theorem weights_cover (y : S4608x2048.Idx) : ∃ pc ∈ kernelRun0_A.sl.HS0_576 (F := Ideal) c arg2 harg2 arg3 harg3 x1 x2, y ∈ pc.1.set :=
  View.cover_of_tiledL (kernelRun0_A.sl.HS0_576 (F := Ideal) c arg2 harg2 arg3 harg3 x1 x2) S128x128.size (by sl_kernel_rfl) y

theorem canon_weights : View.canon (kernelRun0_A.sl.HS0_576 (F := Ideal) c arg2 harg2 arg3 harg3 x1 x2) = wdeqs x1 x2 := by
  funext y
  exact View.canon_apply_of_pieces _ _ (weights_pieces c arg2 harg2 arg3 harg3 x1 x2).mem y (weights_cover c arg2 harg2 arg3 harg3 x1 x2 y)

/-- The right operand of a product: columns of the dequantised weights. -/
theorem weight_tile (o : ℕ) (inb : ∀ a : Fin 2, (![0, o] : Fin 2 → ℕ) a + S4608x256.size a ≤ S4608x2048.size a) :
    arg8.view.readCov (kernelRun0_A.sl.HS0_576 (F := Ideal) c arg2 harg2 arg3 harg3 x1 x2) (Rect.unit (s := S4608x2048) ![0, o] S4608x256.size inb).toLoadRect
      = View.ld (Val := Elt Ideal) (wdeqs x1 x2) (Rect.unit (s := S4608x2048) ![0, o] S4608x256.size inb) := by
  rw [View.readCov_eq_canon_ld _ _ _ (weights_cover c arg2 harg2 arg3 harg3 x1 x2), canon_weights]

set_option maxHeartbeats 1000000 in
/-- The codes of the activations are stored tile by tile. -/
theorem codes_pieces (hc0 : cond0_0 i) : View.PiecesOf (Val := Elt Ideal) (e := .fp8e4m3) (codes x0) (kernelRun0_A c i arg1 harg1 arg2 harg2 arg3 harg3 arg4 harg4 arg5 harg5 arg6 harg6 arg7 harg7 arg8 harg8 arg9 harg9 hc0 x0 x1 x2).2.2.1 := by
  unfold kernelRun0_A; dsimp only
  repeat' (first | exact trivial | refine ⟨code_load arg1 harg1 x0 _ (by decide) _, ?_⟩)

set_option maxHeartbeats 1000000 in
/-- So are the activations they stand for. -/
theorem deqs_pieces : View.PiecesOf (Val := Elt Ideal) (e := .bf16) (deqs x0) (kernelRun0_A.sl.HS1_36 c arg1 harg1 x0) := by
  unfold kernelRun0_A.sl.HS1_36; dsimp only
  repeat' (first | exact trivial | refine ⟨deq_load arg1 harg1 x0 _ (by decide) _, ?_⟩)

/-- The left operand of every product is the dequantised activations. -/
theorem operand : kernelRun0_A.sl.v1952 c arg1 harg1 arg9 x0 = deqs x0 := by
  unfold kernelRun0_A.sl.v1952
  have hcov : ∀ y : S256x4608.Idx, ∃ pc ∈ kernelRun0_A.sl.HS1_36 (F := Ideal) c arg1 harg1 x0, y ∈ pc.1.set :=
    fun y => View.cover_of_tiledL (kernelRun0_A.sl.HS1_36 (F := Ideal) c arg1 harg1 x0) S256x128.size (by sl_kernel_rfl) y
  rw [View.readCov_eq_canon_ld _ _ _ hcov]
  have e : View.canon (kernelRun0_A.sl.HS1_36 (F := Ideal) c arg1 harg1 x0) = deqs x0 := by
    funext y
    exact View.canon_apply_of_pieces _ _ (deqs_pieces c arg1 harg1 x0).mem y (hcov y)
  rw [e]
  exact View.ld_unit_zero (funext fun a => match a with | ⟨0, _⟩ => rfl | ⟨1, _⟩ => rfl) _ _

set_option maxHeartbeats 1000000 in
/-- The scales of the activations: one selection per group. -/
theorem scales_pieces (hc0 : cond0_0 i) : View.PiecesOf (Val := Elt Ideal) (e := .f32) (xscales x0) (kernelRun0_A c i arg1 harg1 arg2 harg2 arg3 harg3 arg4 harg4 arg5 harg5 arg6 harg6 arg7 harg7 arg8 harg8 arg9 harg9 hc0 x0 x1 x2).2.2.2.1 := by
  unfold kernelRun0_A; dsimp only
  refine ⟨?_, trivial⟩
  refine good_piece (N := 36) (xrow x0) inb_S256x36_S256x36_0_0 _ ?_
  refine step_x (xrow x0) 35 (by decide) _ rfl _ _ _ _ rfl rfl (scale_load arg1 harg1 x0 4480 (by decide) inb_S256x4608_S256x128_0_4480) ?_
  refine step_x (xrow x0) 34 (by decide) _ rfl _ _ _ _ rfl rfl (scale_load arg1 harg1 x0 4352 (by decide) inb_S256x4608_S256x128_0_4352) ?_
  refine step_x (xrow x0) 33 (by decide) _ rfl _ _ _ _ rfl rfl (scale_load arg1 harg1 x0 4224 (by decide) inb_S256x4608_S256x128_0_4224) ?_
  refine step_x (xrow x0) 32 (by decide) _ rfl _ _ _ _ rfl rfl (scale_load arg1 harg1 x0 4096 (by decide) inb_S256x4608_S256x128_0_4096) ?_
  refine step_x (xrow x0) 31 (by decide) _ rfl _ _ _ _ rfl rfl (scale_load arg1 harg1 x0 3968 (by decide) inb_S256x4608_S256x128_0_3968) ?_
  refine step_x (xrow x0) 30 (by decide) _ rfl _ _ _ _ rfl rfl (scale_load arg1 harg1 x0 3840 (by decide) inb_S256x4608_S256x128_0_3840) ?_
  refine step_x (xrow x0) 29 (by decide) _ rfl _ _ _ _ rfl rfl (scale_load arg1 harg1 x0 3712 (by decide) inb_S256x4608_S256x128_0_3712) ?_
  refine step_x (xrow x0) 28 (by decide) _ rfl _ _ _ _ rfl rfl (scale_load arg1 harg1 x0 3584 (by decide) inb_S256x4608_S256x128_0_3584) ?_
  refine step_x (xrow x0) 27 (by decide) _ rfl _ _ _ _ rfl rfl (scale_load arg1 harg1 x0 3456 (by decide) inb_S256x4608_S256x128_0_3456) ?_
  refine step_x (xrow x0) 26 (by decide) _ rfl _ _ _ _ rfl rfl (scale_load arg1 harg1 x0 3328 (by decide) inb_S256x4608_S256x128_0_3328) ?_
  refine step_x (xrow x0) 25 (by decide) _ rfl _ _ _ _ rfl rfl (scale_load arg1 harg1 x0 3200 (by decide) inb_S256x4608_S256x128_0_3200) ?_
  refine step_x (xrow x0) 24 (by decide) _ rfl _ _ _ _ rfl rfl (scale_load arg1 harg1 x0 3072 (by decide) inb_S256x4608_S256x128_0_3072) ?_
  refine step_x (xrow x0) 23 (by decide) _ rfl _ _ _ _ rfl rfl (scale_load arg1 harg1 x0 2944 (by decide) inb_S256x4608_S256x128_0_2944) ?_
  refine step_x (xrow x0) 22 (by decide) _ rfl _ _ _ _ rfl rfl (scale_load arg1 harg1 x0 2816 (by decide) inb_S256x4608_S256x128_0_2816) ?_
  refine step_x (xrow x0) 21 (by decide) _ rfl _ _ _ _ rfl rfl (scale_load arg1 harg1 x0 2688 (by decide) inb_S256x4608_S256x128_0_2688) ?_
  refine step_x (xrow x0) 20 (by decide) _ rfl _ _ _ _ rfl rfl (scale_load arg1 harg1 x0 2560 (by decide) inb_S256x4608_S256x128_0_2560) ?_
  refine step_x (xrow x0) 19 (by decide) _ rfl _ _ _ _ rfl rfl (scale_load arg1 harg1 x0 2432 (by decide) inb_S256x4608_S256x128_0_2432) ?_
  refine step_x (xrow x0) 18 (by decide) _ rfl _ _ _ _ rfl rfl (scale_load arg1 harg1 x0 2304 (by decide) inb_S256x4608_S256x128_0_2304) ?_
  refine step_x (xrow x0) 17 (by decide) _ rfl _ _ _ _ rfl rfl (scale_load arg1 harg1 x0 2176 (by decide) inb_S256x4608_S256x128_0_2176) ?_
  refine step_x (xrow x0) 16 (by decide) _ rfl _ _ _ _ rfl rfl (scale_load arg1 harg1 x0 2048 (by decide) inb_S256x4608_S256x128_0_2048) ?_
  refine step_x (xrow x0) 15 (by decide) _ rfl _ _ _ _ rfl rfl (scale_load arg1 harg1 x0 1920 (by decide) inb_S256x4608_S256x128_0_1920) ?_
  refine step_x (xrow x0) 14 (by decide) _ rfl _ _ _ _ rfl rfl (scale_load arg1 harg1 x0 1792 (by decide) inb_S256x4608_S256x128_0_1792) ?_
  refine step_x (xrow x0) 13 (by decide) _ rfl _ _ _ _ rfl rfl (scale_load arg1 harg1 x0 1664 (by decide) inb_S256x4608_S256x128_0_1664) ?_
  refine step_x (xrow x0) 12 (by decide) _ rfl _ _ _ _ rfl rfl (scale_load arg1 harg1 x0 1536 (by decide) inb_S256x4608_S256x128_0_1536) ?_
  refine step_x (xrow x0) 11 (by decide) _ rfl _ _ _ _ rfl rfl (scale_load arg1 harg1 x0 1408 (by decide) inb_S256x4608_S256x128_0_1408) ?_
  refine step_x (xrow x0) 10 (by decide) _ rfl _ _ _ _ rfl rfl (scale_load arg1 harg1 x0 1280 (by decide) inb_S256x4608_S256x128_0_1280) ?_
  refine step_x (xrow x0) 9 (by decide) _ rfl _ _ _ _ rfl rfl (scale_load arg1 harg1 x0 1152 (by decide) inb_S256x4608_S256x128_0_1152) ?_
  refine step_x (xrow x0) 8 (by decide) _ rfl _ _ _ _ rfl rfl (scale_load arg1 harg1 x0 1024 (by decide) inb_S256x4608_S256x128_0_1024) ?_
  refine step_x (xrow x0) 7 (by decide) _ rfl _ _ _ _ rfl rfl (scale_load arg1 harg1 x0 896 (by decide) inb_S256x4608_S256x128_0_896) ?_
  refine step_x (xrow x0) 6 (by decide) _ rfl _ _ _ _ rfl rfl (scale_load arg1 harg1 x0 768 (by decide) inb_S256x4608_S256x128_0_768) ?_
  refine step_x (xrow x0) 5 (by decide) _ rfl _ _ _ _ rfl rfl (scale_load arg1 harg1 x0 640 (by decide) inb_S256x4608_S256x128_0_640) ?_
  refine step_x (xrow x0) 4 (by decide) _ rfl _ _ _ _ rfl rfl (scale_load arg1 harg1 x0 512 (by decide) inb_S256x4608_S256x128_0_512) ?_
  refine step_x (xrow x0) 3 (by decide) _ rfl _ _ _ _ rfl rfl (scale_load arg1 harg1 x0 384 (by decide) inb_S256x4608_S256x128_0_384) ?_
  refine step_x (xrow x0) 2 (by decide) _ rfl _ _ _ _ rfl rfl (scale_load arg1 harg1 x0 256 (by decide) inb_S256x4608_S256x128_0_256) ?_
  refine step_x (xrow x0) 1 (by decide) _ rfl _ _ _ _ rfl rfl (scale_load arg1 harg1 x0 128 (by decide) inb_S256x4608_S256x128_0_128) ?_
  refine step_x (xrow x0) 0 (by decide) _ rfl _ _ _ _ rfl rfl (scale_load arg1 harg1 x0 0 (by decide) inb_S256x4608_S256x128_0_0) ?_
  exact good_zero _ _

set_option maxHeartbeats 4000000 in
/-- The codes of the hidden values, tile by tile. -/
theorem hcodes_pieces (hc0 : cond0_0 i) : View.PiecesOf (Val := Elt Ideal) (e := .fp8e4m3) (hcodes x0 (wdeqs x1 x2)) (kernelRun0_A c i arg1 harg1 arg2 harg2 arg3 harg3 arg4 harg4 arg5 harg5 arg6 harg6 arg7 harg7 arg8 harg8 arg9 harg9 hc0 x0 x1 x2).1 := by
  unfold kernelRun0_A; dsimp only
  refine ⟨hcode_piece (hidden x0 (wdeqs x1 x2)) 896 (by decide) inb_S256x1024_S256x128_0_896 _ (h_hi x0 (wdeqs x1 x2) 768 1792 896 rfl _ _ _ _ _ (operand c arg1 harg1 arg9 x0) (weight_tile c arg2 harg2 arg3 harg3 arg8 x1 x2 768 _) (weight_tile c arg2 harg2 arg3 harg3 arg8 x1 x2 1792 _) rfl (by decide)), ?_⟩
  refine ⟨hcode_piece (hidden x0 (wdeqs x1 x2)) 768 (by decide) inb_S256x1024_S256x128_0_768 _ (h_lo x0 (wdeqs x1 x2) 768 1792 768 rfl _ _ _ _ _ (operand c arg1 harg1 arg9 x0) (weight_tile c arg2 harg2 arg3 harg3 arg8 x1 x2 768 _) (weight_tile c arg2 harg2 arg3 harg3 arg8 x1 x2 1792 _) rfl (by decide)), ?_⟩
  refine ⟨hcode_piece (hidden x0 (wdeqs x1 x2)) 640 (by decide) inb_S256x1024_S256x128_0_640 _ (h_hi x0 (wdeqs x1 x2) 512 1536 640 rfl _ _ _ _ _ (operand c arg1 harg1 arg9 x0) (weight_tile c arg2 harg2 arg3 harg3 arg8 x1 x2 512 _) (weight_tile c arg2 harg2 arg3 harg3 arg8 x1 x2 1536 _) rfl (by decide)), ?_⟩
  refine ⟨hcode_piece (hidden x0 (wdeqs x1 x2)) 512 (by decide) inb_S256x1024_S256x128_0_512 _ (h_lo x0 (wdeqs x1 x2) 512 1536 512 rfl _ _ _ _ _ (operand c arg1 harg1 arg9 x0) (weight_tile c arg2 harg2 arg3 harg3 arg8 x1 x2 512 _) (weight_tile c arg2 harg2 arg3 harg3 arg8 x1 x2 1536 _) rfl (by decide)), ?_⟩
  refine ⟨hcode_piece (hidden x0 (wdeqs x1 x2)) 384 (by decide) inb_S256x1024_S256x128_0_384 _ (h_hi x0 (wdeqs x1 x2) 256 1280 384 rfl _ _ _ _ _ (operand c arg1 harg1 arg9 x0) (weight_tile c arg2 harg2 arg3 harg3 arg8 x1 x2 256 _) (weight_tile c arg2 harg2 arg3 harg3 arg8 x1 x2 1280 _) rfl (by decide)), ?_⟩
  refine ⟨hcode_piece (hidden x0 (wdeqs x1 x2)) 256 (by decide) inb_S256x1024_S256x128_0_256 _ (h_lo x0 (wdeqs x1 x2) 256 1280 256 rfl _ _ _ _ _ (operand c arg1 harg1 arg9 x0) (weight_tile c arg2 harg2 arg3 harg3 arg8 x1 x2 256 _) (weight_tile c arg2 harg2 arg3 harg3 arg8 x1 x2 1280 _) rfl (by decide)), ?_⟩
  refine ⟨hcode_piece (hidden x0 (wdeqs x1 x2)) 128 (by decide) inb_S256x1024_S256x128_0_128 _ (h_hi x0 (wdeqs x1 x2) 0 1024 128 rfl _ _ _ _ _ (operand c arg1 harg1 arg9 x0) (weight_tile c arg2 harg2 arg3 harg3 arg8 x1 x2 0 _) (weight_tile c arg2 harg2 arg3 harg3 arg8 x1 x2 1024 _) rfl (by decide)), ?_⟩
  refine ⟨hcode_piece (hidden x0 (wdeqs x1 x2)) 0 (by decide) inb_S256x1024_S256x128_0_0 _ (h_lo x0 (wdeqs x1 x2) 0 1024 0 rfl _ _ _ _ _ (operand c arg1 harg1 arg9 x0) (weight_tile c arg2 harg2 arg3 harg3 arg8 x1 x2 0 _) (weight_tile c arg2 harg2 arg3 harg3 arg8 x1 x2 1024 _) rfl (by decide)), ?_⟩
  exact trivial

set_option maxHeartbeats 4000000 in
/-- The scales of the hidden values: one selection per group. -/
theorem hscales_pieces (hc0 : cond0_0 i) : View.PiecesOf (Val := Elt Ideal) (e := .f32) (hscales x0 (wdeqs x1 x2)) (kernelRun0_A c i arg1 harg1 arg2 harg2 arg3 harg3 arg4 harg4 arg5 harg5 arg6 harg6 arg7 harg7 arg8 harg8 arg9 harg9 hc0 x0 x1 x2).2.1 := by
  unfold kernelRun0_A; dsimp only
  refine ⟨?_, trivial⟩
  refine good_piece (N := 8) (hidden x0 (wdeqs x1 x2)) inb_S256x8_S256x8_0_0 _ ?_
  refine step_h (hidden x0 (wdeqs x1 x2)) 7 (by decide) _ rfl _ _ _ _ rfl rfl (hscale_piece (hidden x0 (wdeqs x1 x2)) 896 (by decide) _ (h_hi x0 (wdeqs x1 x2) 768 1792 896 rfl _ _ _ _ _ (operand c arg1 harg1 arg9 x0) (weight_tile c arg2 harg2 arg3 harg3 arg8 x1 x2 768 _) (weight_tile c arg2 harg2 arg3 harg3 arg8 x1 x2 1792 _) rfl (by decide)) (by decide)) ?_
  refine step_h (hidden x0 (wdeqs x1 x2)) 6 (by decide) _ rfl _ _ _ _ rfl rfl (hscale_piece (hidden x0 (wdeqs x1 x2)) 768 (by decide) _ (h_lo x0 (wdeqs x1 x2) 768 1792 768 rfl _ _ _ _ _ (operand c arg1 harg1 arg9 x0) (weight_tile c arg2 harg2 arg3 harg3 arg8 x1 x2 768 _) (weight_tile c arg2 harg2 arg3 harg3 arg8 x1 x2 1792 _) rfl (by decide)) (by decide)) ?_
  refine step_h (hidden x0 (wdeqs x1 x2)) 5 (by decide) _ rfl _ _ _ _ rfl rfl (hscale_piece (hidden x0 (wdeqs x1 x2)) 640 (by decide) _ (h_hi x0 (wdeqs x1 x2) 512 1536 640 rfl _ _ _ _ _ (operand c arg1 harg1 arg9 x0) (weight_tile c arg2 harg2 arg3 harg3 arg8 x1 x2 512 _) (weight_tile c arg2 harg2 arg3 harg3 arg8 x1 x2 1536 _) rfl (by decide)) (by decide)) ?_
  refine step_h (hidden x0 (wdeqs x1 x2)) 4 (by decide) _ rfl _ _ _ _ rfl rfl (hscale_piece (hidden x0 (wdeqs x1 x2)) 512 (by decide) _ (h_lo x0 (wdeqs x1 x2) 512 1536 512 rfl _ _ _ _ _ (operand c arg1 harg1 arg9 x0) (weight_tile c arg2 harg2 arg3 harg3 arg8 x1 x2 512 _) (weight_tile c arg2 harg2 arg3 harg3 arg8 x1 x2 1536 _) rfl (by decide)) (by decide)) ?_
  refine step_h (hidden x0 (wdeqs x1 x2)) 3 (by decide) _ rfl _ _ _ _ rfl rfl (hscale_piece (hidden x0 (wdeqs x1 x2)) 384 (by decide) _ (h_hi x0 (wdeqs x1 x2) 256 1280 384 rfl _ _ _ _ _ (operand c arg1 harg1 arg9 x0) (weight_tile c arg2 harg2 arg3 harg3 arg8 x1 x2 256 _) (weight_tile c arg2 harg2 arg3 harg3 arg8 x1 x2 1280 _) rfl (by decide)) (by decide)) ?_
  refine step_h (hidden x0 (wdeqs x1 x2)) 2 (by decide) _ rfl _ _ _ _ rfl rfl (hscale_piece (hidden x0 (wdeqs x1 x2)) 256 (by decide) _ (h_lo x0 (wdeqs x1 x2) 256 1280 256 rfl _ _ _ _ _ (operand c arg1 harg1 arg9 x0) (weight_tile c arg2 harg2 arg3 harg3 arg8 x1 x2 256 _) (weight_tile c arg2 harg2 arg3 harg3 arg8 x1 x2 1280 _) rfl (by decide)) (by decide)) ?_
  refine step_h (hidden x0 (wdeqs x1 x2)) 1 (by decide) _ rfl _ _ _ _ rfl rfl (hscale_piece (hidden x0 (wdeqs x1 x2)) 128 (by decide) _ (h_hi x0 (wdeqs x1 x2) 0 1024 128 rfl _ _ _ _ _ (operand c arg1 harg1 arg9 x0) (weight_tile c arg2 harg2 arg3 harg3 arg8 x1 x2 0 _) (weight_tile c arg2 harg2 arg3 harg3 arg8 x1 x2 1024 _) rfl (by decide)) (by decide)) ?_
  refine step_h (hidden x0 (wdeqs x1 x2)) 0 (by decide) _ rfl _ _ _ _ rfl rfl (hscale_piece (hidden x0 (wdeqs x1 x2)) 0 (by decide) _ (h_lo x0 (wdeqs x1 x2) 0 1024 0 rfl _ _ _ _ _ (operand c arg1 harg1 arg9 x0) (weight_tile c arg2 harg2 arg3 harg3 arg8 x1 x2 0 _) (weight_tile c arg2 harg2 arg3 harg3 arg8 x1 x2 1024 _) rfl (by decide)) (by decide)) ?_
  exact good_zero _ _

/-! The buffers read back. -/

/-- Result 0: the codes of the hidden values. -/
theorem out_3 (hc0 : cond0_0 i) : out0_A_3 c i arg1 harg1 arg2 harg2 arg3 harg3 arg4 harg4 arg5 harg5 arg6 harg6 arg7 harg7 arg8 harg8 arg9 harg9 hc0 x0 x1 x2 = hcodes x0 (wdeqs x1 x2) := by
  unfold out0_A_3
  rw [View.read_writes_eq_canon _ _ _ (cover0_A_3 c i arg1 harg1 arg2 harg2 arg3 harg3 arg4 harg4 arg5 harg5 arg6 harg6 arg7 harg7 arg8 harg8 arg9 harg9 hc0 x0 x1 x2)]
  funext y
  exact View.canon_apply_of_pieces _ _ (hcodes_pieces c i arg1 harg1 arg2 harg2 arg3 harg3 arg4 harg4 arg5 harg5 arg6 harg6 arg7 harg7 arg8 harg8 arg9 harg9 x0 x1 x2 hc0).mem y (cover0_A_3 c i arg1 harg1 arg2 harg2 arg3 harg3 arg4 harg4 arg5 harg5 arg6 harg6 arg7 harg7 arg8 harg8 arg9 harg9 hc0 x0 x1 x2 y)

/-- Result 1: their scales. -/
theorem out_4 (hc0 : cond0_0 i) : out0_A_4 c i arg1 harg1 arg2 harg2 arg3 harg3 arg4 harg4 arg5 harg5 arg6 harg6 arg7 harg7 arg8 harg8 arg9 harg9 hc0 x0 x1 x2 = hscales x0 (wdeqs x1 x2) := by
  unfold out0_A_4
  rw [View.read_writes_eq_canon _ _ _ (cover0_A_4 c i arg1 harg1 arg2 harg2 arg3 harg3 arg4 harg4 arg5 harg5 arg6 harg6 arg7 harg7 arg8 harg8 arg9 harg9 hc0 x0 x1 x2)]
  funext y
  exact View.canon_apply_of_pieces _ _ (hscales_pieces c i arg1 harg1 arg2 harg2 arg3 harg3 arg4 harg4 arg5 harg5 arg6 harg6 arg7 harg7 arg8 harg8 arg9 harg9 x0 x1 x2 hc0).mem y (cover0_A_4 c i arg1 harg1 arg2 harg2 arg3 harg3 arg4 harg4 arg5 harg5 arg6 harg6 arg7 harg7 arg8 harg8 arg9 harg9 hc0 x0 x1 x2 y)

/-- Result 2: the codes of the activations. -/
theorem out_5 (hc0 : cond0_0 i) : out0_A_5 c i arg1 harg1 arg2 harg2 arg3 harg3 arg4 harg4 arg5 harg5 arg6 harg6 arg7 harg7 arg8 harg8 arg9 harg9 hc0 x0 x1 x2 = codes x0 := by
  unfold out0_A_5
  rw [View.read_writes_eq_canon _ _ _ (cover0_A_5 c i arg1 harg1 arg2 harg2 arg3 harg3 arg4 harg4 arg5 harg5 arg6 harg6 arg7 harg7 arg8 harg8 arg9 harg9 hc0 x0 x1 x2)]
  funext y
  exact View.canon_apply_of_pieces _ _ (codes_pieces c i arg1 harg1 arg2 harg2 arg3 harg3 arg4 harg4 arg5 harg5 arg6 harg6 arg7 harg7 arg8 harg8 arg9 harg9 x0 x1 x2 hc0).mem y (cover0_A_5 c i arg1 harg1 arg2 harg2 arg3 harg3 arg4 harg4 arg5 harg5 arg6 harg6 arg7 harg7 arg8 harg8 arg9 harg9 hc0 x0 x1 x2 y)

/-- Result 3: their scales. -/
theorem out_6 (hc0 : cond0_0 i) : out0_A_6 c i arg1 harg1 arg2 harg2 arg3 harg3 arg4 harg4 arg5 harg5 arg6 harg6 arg7 harg7 arg8 harg8 arg9 harg9 hc0 x0 x1 x2 = xscales x0 := by
  unfold out0_A_6
  rw [View.read_writes_eq_canon _ _ _ (cover0_A_6 c i arg1 harg1 arg2 harg2 arg3 harg3 arg4 harg4 arg5 harg5 arg6 harg6 arg7 harg7 arg8 harg8 arg9 harg9 hc0 x0 x1 x2)]
  funext y
  exact View.canon_apply_of_pieces _ _ (scales_pieces c i arg1 harg1 arg2 harg2 arg3 harg3 arg4 harg4 arg5 harg5 arg6 harg6 arg7 harg7 arg8 harg8 arg9 harg9 x0 x1 x2 hc0).mem y (cover0_A_6 c i arg1 harg1 arg2 harg2 arg3 harg3 arg4 harg4 arg5 harg5 arg6 harg6 arg7 harg7 arg8 harg8 arg9 harg9 hc0 x0 x1 x2 y)

/-- The scratch: the dequantised weights. -/
theorem scratch (hc0 : cond0_0 i) : sout0_A_0 c i arg1 harg1 arg2 harg2 arg3 harg3 arg4 harg4 arg5 harg5 arg6 harg6 arg7 harg7 arg8 harg8 arg9 harg9 hc0 x0 x1 x2 = wdeqs x1 x2 := by
  unfold sout0_A_0
  rw [View.read_writes_eq_canon _ _ _ (scover0_A_0 c i arg1 harg1 arg2 harg2 arg3 harg3 arg4 harg4 arg5 harg5 arg6 harg6 arg7 harg7 arg8 harg8 arg9 harg9 hc0 x0 x1 x2)]
  exact canon_weights c arg2 harg2 arg3 harg3 x1 x2

end Cert.KernelIdeal.BlockA

end
-- ==== Proof.BlockB.lean ====
module
public import proofs.«01_k».proof.Proof.Pieces
@[expose] public section
set_option maxRecDepth 16384
noncomputable section
namespace Cert.KernelIdeal.BlockB
open Idealize.ShloMosaic Idealize.ShloMosaic.TcCoe Idealize.ShloMosaic.Tactic Cert.KernelIdeal Cert.KernelIdeal.Gen
open Cert.KernelIdeal.Pieces Cert.Spec

/-! What a grid point after the first leaves in each buffer, the dequantised weights `xs0` being in the scratch. -/

variable (c : Dev nD) (i : grid0.Coords) (arg1 : Memref sig .tc .vmem S256x4608 .bf16) (harg1 : arg1.IsWhole) (arg2 : Memref sig .tc .vmem S4608x2048 .fp8e4m3) (harg2 : arg2.IsWhole) (arg3 : Memref sig .tc .smem S36x16 .f32) (harg3 : arg3.IsWhole) (arg4 : Memref sig .tc .vmem S256x1024 .fp8e4m3) (harg4 : arg4.IsWhole) (arg5 : Memref sig .tc .vmem S256x8 .f32) (harg5 : arg5.IsWhole) (arg6 : Memref sig .tc .vmem S256x4608 .fp8e4m3) (harg6 : arg6.IsWhole) (arg7 : Memref sig .tc .vmem S256x36 .f32) (harg7 : arg7.IsWhole) (arg8 : Memref sig .tc .vmem S4608x2048 .bf16) (harg8 : arg8.IsWhole) (arg9 : Memref sig .tc .vmem S256x4608 .bf16) (harg9 : arg9.IsWhole)
  (x0 : Vec Ideal S256x4608 .bf16) (x1 : Vec Ideal S4608x2048 .fp8e4m3) (x2 : Vec Ideal S36x16 .f32) (xs0 : Vec Ideal S4608x2048 .bf16)

set_option maxHeartbeats 1000000 in
/-- The codes of the activations are stored tile by tile. -/
theorem codes_pieces (hc0 : ¬cond0_0 i) : View.PiecesOf (Val := Elt Ideal) (e := .fp8e4m3) (codes x0) (kernelRun0_B c i arg1 harg1 arg2 harg2 arg3 harg3 arg4 harg4 arg5 harg5 arg6 harg6 arg7 harg7 arg8 harg8 arg9 harg9 hc0 x0 x1 x2 xs0).2.2.1 := by
  unfold kernelRun0_B; dsimp only
  repeat' (first | exact trivial | refine ⟨code_load arg1 harg1 x0 _ (by decide) _, ?_⟩)

set_option maxHeartbeats 1000000 in
/-- So are the activations they stand for. -/
theorem deqs_pieces : View.PiecesOf (Val := Elt Ideal) (e := .bf16) (deqs x0) (kernelRun0_B.sl.HS1_36 c arg1 harg1 x0) := by
  unfold kernelRun0_B.sl.HS1_36; dsimp only
  repeat' (first | exact trivial | refine ⟨deq_load arg1 harg1 x0 _ (by decide) _, ?_⟩)

/-- The left operand of every product is the dequantised activations. -/
theorem operand : kernelRun0_B.sl.v1952 c arg1 harg1 arg9 x0 = deqs x0 := by
  unfold kernelRun0_B.sl.v1952
  have hcov : ∀ y : S256x4608.Idx, ∃ pc ∈ kernelRun0_B.sl.HS1_36 (F := Ideal) c arg1 harg1 x0, y ∈ pc.1.set :=
    fun y => View.cover_of_tiledL (kernelRun0_B.sl.HS1_36 (F := Ideal) c arg1 harg1 x0) S256x128.size (by sl_kernel_rfl) y
  rw [View.readCov_eq_canon_ld _ _ _ hcov]
  have e : View.canon (kernelRun0_B.sl.HS1_36 (F := Ideal) c arg1 harg1 x0) = deqs x0 := by
    funext y
    exact View.canon_apply_of_pieces _ _ (deqs_pieces c arg1 harg1 x0).mem y (hcov y)
  rw [e]
  exact View.ld_unit_zero (funext fun a => match a with | ⟨0, _⟩ => rfl | ⟨1, _⟩ => rfl) _ _

set_option maxHeartbeats 1000000 in
/-- The scales of the activations: one selection per group. -/
theorem scales_pieces (hc0 : ¬cond0_0 i) : View.PiecesOf (Val := Elt Ideal) (e := .f32) (xscales x0) (kernelRun0_B c i arg1 harg1 arg2 harg2 arg3 harg3 arg4 harg4 arg5 harg5 arg6 harg6 arg7 harg7 arg8 harg8 arg9 harg9 hc0 x0 x1 x2 xs0).2.2.2.1 := by
  unfold kernelRun0_B; dsimp only
  refine ⟨?_, trivial⟩
  refine good_piece (N := 36) (xrow x0) inb_S256x36_S256x36_0_0 _ ?_
  refine step_x (xrow x0) 35 (by decide) _ rfl _ _ _ _ rfl rfl (scale_load arg1 harg1 x0 4480 (by decide) inb_S256x4608_S256x128_0_4480) ?_
  refine step_x (xrow x0) 34 (by decide) _ rfl _ _ _ _ rfl rfl (scale_load arg1 harg1 x0 4352 (by decide) inb_S256x4608_S256x128_0_4352) ?_
  refine step_x (xrow x0) 33 (by decide) _ rfl _ _ _ _ rfl rfl (scale_load arg1 harg1 x0 4224 (by decide) inb_S256x4608_S256x128_0_4224) ?_
  refine step_x (xrow x0) 32 (by decide) _ rfl _ _ _ _ rfl rfl (scale_load arg1 harg1 x0 4096 (by decide) inb_S256x4608_S256x128_0_4096) ?_
  refine step_x (xrow x0) 31 (by decide) _ rfl _ _ _ _ rfl rfl (scale_load arg1 harg1 x0 3968 (by decide) inb_S256x4608_S256x128_0_3968) ?_
  refine step_x (xrow x0) 30 (by decide) _ rfl _ _ _ _ rfl rfl (scale_load arg1 harg1 x0 3840 (by decide) inb_S256x4608_S256x128_0_3840) ?_
  refine step_x (xrow x0) 29 (by decide) _ rfl _ _ _ _ rfl rfl (scale_load arg1 harg1 x0 3712 (by decide) inb_S256x4608_S256x128_0_3712) ?_
  refine step_x (xrow x0) 28 (by decide) _ rfl _ _ _ _ rfl rfl (scale_load arg1 harg1 x0 3584 (by decide) inb_S256x4608_S256x128_0_3584) ?_
  refine step_x (xrow x0) 27 (by decide) _ rfl _ _ _ _ rfl rfl (scale_load arg1 harg1 x0 3456 (by decide) inb_S256x4608_S256x128_0_3456) ?_
  refine step_x (xrow x0) 26 (by decide) _ rfl _ _ _ _ rfl rfl (scale_load arg1 harg1 x0 3328 (by decide) inb_S256x4608_S256x128_0_3328) ?_
  refine step_x (xrow x0) 25 (by decide) _ rfl _ _ _ _ rfl rfl (scale_load arg1 harg1 x0 3200 (by decide) inb_S256x4608_S256x128_0_3200) ?_
  refine step_x (xrow x0) 24 (by decide) _ rfl _ _ _ _ rfl rfl (scale_load arg1 harg1 x0 3072 (by decide) inb_S256x4608_S256x128_0_3072) ?_
  refine step_x (xrow x0) 23 (by decide) _ rfl _ _ _ _ rfl rfl (scale_load arg1 harg1 x0 2944 (by decide) inb_S256x4608_S256x128_0_2944) ?_
  refine step_x (xrow x0) 22 (by decide) _ rfl _ _ _ _ rfl rfl (scale_load arg1 harg1 x0 2816 (by decide) inb_S256x4608_S256x128_0_2816) ?_
  refine step_x (xrow x0) 21 (by decide) _ rfl _ _ _ _ rfl rfl (scale_load arg1 harg1 x0 2688 (by decide) inb_S256x4608_S256x128_0_2688) ?_
  refine step_x (xrow x0) 20 (by decide) _ rfl _ _ _ _ rfl rfl (scale_load arg1 harg1 x0 2560 (by decide) inb_S256x4608_S256x128_0_2560) ?_
  refine step_x (xrow x0) 19 (by decide) _ rfl _ _ _ _ rfl rfl (scale_load arg1 harg1 x0 2432 (by decide) inb_S256x4608_S256x128_0_2432) ?_
  refine step_x (xrow x0) 18 (by decide) _ rfl _ _ _ _ rfl rfl (scale_load arg1 harg1 x0 2304 (by decide) inb_S256x4608_S256x128_0_2304) ?_
  refine step_x (xrow x0) 17 (by decide) _ rfl _ _ _ _ rfl rfl (scale_load arg1 harg1 x0 2176 (by decide) inb_S256x4608_S256x128_0_2176) ?_
  refine step_x (xrow x0) 16 (by decide) _ rfl _ _ _ _ rfl rfl (scale_load arg1 harg1 x0 2048 (by decide) inb_S256x4608_S256x128_0_2048) ?_
  refine step_x (xrow x0) 15 (by decide) _ rfl _ _ _ _ rfl rfl (scale_load arg1 harg1 x0 1920 (by decide) inb_S256x4608_S256x128_0_1920) ?_
  refine step_x (xrow x0) 14 (by decide) _ rfl _ _ _ _ rfl rfl (scale_load arg1 harg1 x0 1792 (by decide) inb_S256x4608_S256x128_0_1792) ?_
  refine step_x (xrow x0) 13 (by decide) _ rfl _ _ _ _ rfl rfl (scale_load arg1 harg1 x0 1664 (by decide) inb_S256x4608_S256x128_0_1664) ?_
  refine step_x (xrow x0) 12 (by decide) _ rfl _ _ _ _ rfl rfl (scale_load arg1 harg1 x0 1536 (by decide) inb_S256x4608_S256x128_0_1536) ?_
  refine step_x (xrow x0) 11 (by decide) _ rfl _ _ _ _ rfl rfl (scale_load arg1 harg1 x0 1408 (by decide) inb_S256x4608_S256x128_0_1408) ?_
  refine step_x (xrow x0) 10 (by decide) _ rfl _ _ _ _ rfl rfl (scale_load arg1 harg1 x0 1280 (by decide) inb_S256x4608_S256x128_0_1280) ?_
  refine step_x (xrow x0) 9 (by decide) _ rfl _ _ _ _ rfl rfl (scale_load arg1 harg1 x0 1152 (by decide) inb_S256x4608_S256x128_0_1152) ?_
  refine step_x (xrow x0) 8 (by decide) _ rfl _ _ _ _ rfl rfl (scale_load arg1 harg1 x0 1024 (by decide) inb_S256x4608_S256x128_0_1024) ?_
  refine step_x (xrow x0) 7 (by decide) _ rfl _ _ _ _ rfl rfl (scale_load arg1 harg1 x0 896 (by decide) inb_S256x4608_S256x128_0_896) ?_
  refine step_x (xrow x0) 6 (by decide) _ rfl _ _ _ _ rfl rfl (scale_load arg1 harg1 x0 768 (by decide) inb_S256x4608_S256x128_0_768) ?_
  refine step_x (xrow x0) 5 (by decide) _ rfl _ _ _ _ rfl rfl (scale_load arg1 harg1 x0 640 (by decide) inb_S256x4608_S256x128_0_640) ?_
  refine step_x (xrow x0) 4 (by decide) _ rfl _ _ _ _ rfl rfl (scale_load arg1 harg1 x0 512 (by decide) inb_S256x4608_S256x128_0_512) ?_
  refine step_x (xrow x0) 3 (by decide) _ rfl _ _ _ _ rfl rfl (scale_load arg1 harg1 x0 384 (by decide) inb_S256x4608_S256x128_0_384) ?_
  refine step_x (xrow x0) 2 (by decide) _ rfl _ _ _ _ rfl rfl (scale_load arg1 harg1 x0 256 (by decide) inb_S256x4608_S256x128_0_256) ?_
  refine step_x (xrow x0) 1 (by decide) _ rfl _ _ _ _ rfl rfl (scale_load arg1 harg1 x0 128 (by decide) inb_S256x4608_S256x128_0_128) ?_
  refine step_x (xrow x0) 0 (by decide) _ rfl _ _ _ _ rfl rfl (scale_load arg1 harg1 x0 0 (by decide) inb_S256x4608_S256x128_0_0) ?_
  exact good_zero _ _

set_option maxHeartbeats 4000000 in
/-- The codes of the hidden values, tile by tile. -/
theorem hcodes_pieces (hc0 : ¬cond0_0 i) : View.PiecesOf (Val := Elt Ideal) (e := .fp8e4m3) (hcodes x0 xs0) (kernelRun0_B c i arg1 harg1 arg2 harg2 arg3 harg3 arg4 harg4 arg5 harg5 arg6 harg6 arg7 harg7 arg8 harg8 arg9 harg9 hc0 x0 x1 x2 xs0).1 := by
  unfold kernelRun0_B; dsimp only
  refine ⟨hcode_piece (hidden x0 xs0) 896 (by decide) inb_S256x1024_S256x128_0_896 _ (h_hi x0 xs0 768 1792 896 rfl _ _ _ _ _ (operand c arg1 harg1 arg9 x0) (w_load arg8 harg8 xs0 768 _) (w_load arg8 harg8 xs0 1792 _) rfl (by decide)), ?_⟩
  refine ⟨hcode_piece (hidden x0 xs0) 768 (by decide) inb_S256x1024_S256x128_0_768 _ (h_lo x0 xs0 768 1792 768 rfl _ _ _ _ _ (operand c arg1 harg1 arg9 x0) (w_load arg8 harg8 xs0 768 _) (w_load arg8 harg8 xs0 1792 _) rfl (by decide)), ?_⟩
  refine ⟨hcode_piece (hidden x0 xs0) 640 (by decide) inb_S256x1024_S256x128_0_640 _ (h_hi x0 xs0 512 1536 640 rfl _ _ _ _ _ (operand c arg1 harg1 arg9 x0) (w_load arg8 harg8 xs0 512 _) (w_load arg8 harg8 xs0 1536 _) rfl (by decide)), ?_⟩
  refine ⟨hcode_piece (hidden x0 xs0) 512 (by decide) inb_S256x1024_S256x128_0_512 _ (h_lo x0 xs0 512 1536 512 rfl _ _ _ _ _ (operand c arg1 harg1 arg9 x0) (w_load arg8 harg8 xs0 512 _) (w_load arg8 harg8 xs0 1536 _) rfl (by decide)), ?_⟩
  refine ⟨hcode_piece (hidden x0 xs0) 384 (by decide) inb_S256x1024_S256x128_0_384 _ (h_hi x0 xs0 256 1280 384 rfl _ _ _ _ _ (operand c arg1 harg1 arg9 x0) (w_load arg8 harg8 xs0 256 _) (w_load arg8 harg8 xs0 1280 _) rfl (by decide)), ?_⟩
  refine ⟨hcode_piece (hidden x0 xs0) 256 (by decide) inb_S256x1024_S256x128_0_256 _ (h_lo x0 xs0 256 1280 256 rfl _ _ _ _ _ (operand c arg1 harg1 arg9 x0) (w_load arg8 harg8 xs0 256 _) (w_load arg8 harg8 xs0 1280 _) rfl (by decide)), ?_⟩
  refine ⟨hcode_piece (hidden x0 xs0) 128 (by decide) inb_S256x1024_S256x128_0_128 _ (h_hi x0 xs0 0 1024 128 rfl _ _ _ _ _ (operand c arg1 harg1 arg9 x0) (w_load arg8 harg8 xs0 0 _) (w_load arg8 harg8 xs0 1024 _) rfl (by decide)), ?_⟩
  refine ⟨hcode_piece (hidden x0 xs0) 0 (by decide) inb_S256x1024_S256x128_0_0 _ (h_lo x0 xs0 0 1024 0 rfl _ _ _ _ _ (operand c arg1 harg1 arg9 x0) (w_load arg8 harg8 xs0 0 _) (w_load arg8 harg8 xs0 1024 _) rfl (by decide)), ?_⟩
  exact trivial

set_option maxHeartbeats 4000000 in
/-- The scales of the hidden values: one selection per group. -/
theorem hscales_pieces (hc0 : ¬cond0_0 i) : View.PiecesOf (Val := Elt Ideal) (e := .f32) (hscales x0 xs0) (kernelRun0_B c i arg1 harg1 arg2 harg2 arg3 harg3 arg4 harg4 arg5 harg5 arg6 harg6 arg7 harg7 arg8 harg8 arg9 harg9 hc0 x0 x1 x2 xs0).2.1 := by
  unfold kernelRun0_B; dsimp only
  refine ⟨?_, trivial⟩
  refine good_piece (N := 8) (hidden x0 xs0) inb_S256x8_S256x8_0_0 _ ?_
  refine step_h (hidden x0 xs0) 7 (by decide) _ rfl _ _ _ _ rfl rfl (hscale_piece (hidden x0 xs0) 896 (by decide) _ (h_hi x0 xs0 768 1792 896 rfl _ _ _ _ _ (operand c arg1 harg1 arg9 x0) (w_load arg8 harg8 xs0 768 _) (w_load arg8 harg8 xs0 1792 _) rfl (by decide)) (by decide)) ?_
  refine step_h (hidden x0 xs0) 6 (by decide) _ rfl _ _ _ _ rfl rfl (hscale_piece (hidden x0 xs0) 768 (by decide) _ (h_lo x0 xs0 768 1792 768 rfl _ _ _ _ _ (operand c arg1 harg1 arg9 x0) (w_load arg8 harg8 xs0 768 _) (w_load arg8 harg8 xs0 1792 _) rfl (by decide)) (by decide)) ?_
  refine step_h (hidden x0 xs0) 5 (by decide) _ rfl _ _ _ _ rfl rfl (hscale_piece (hidden x0 xs0) 640 (by decide) _ (h_hi x0 xs0 512 1536 640 rfl _ _ _ _ _ (operand c arg1 harg1 arg9 x0) (w_load arg8 harg8 xs0 512 _) (w_load arg8 harg8 xs0 1536 _) rfl (by decide)) (by decide)) ?_
  refine step_h (hidden x0 xs0) 4 (by decide) _ rfl _ _ _ _ rfl rfl (hscale_piece (hidden x0 xs0) 512 (by decide) _ (h_lo x0 xs0 512 1536 512 rfl _ _ _ _ _ (operand c arg1 harg1 arg9 x0) (w_load arg8 harg8 xs0 512 _) (w_load arg8 harg8 xs0 1536 _) rfl (by decide)) (by decide)) ?_
  refine step_h (hidden x0 xs0) 3 (by decide) _ rfl _ _ _ _ rfl rfl (hscale_piece (hidden x0 xs0) 384 (by decide) _ (h_hi x0 xs0 256 1280 384 rfl _ _ _ _ _ (operand c arg1 harg1 arg9 x0) (w_load arg8 harg8 xs0 256 _) (w_load arg8 harg8 xs0 1280 _) rfl (by decide)) (by decide)) ?_
  refine step_h (hidden x0 xs0) 2 (by decide) _ rfl _ _ _ _ rfl rfl (hscale_piece (hidden x0 xs0) 256 (by decide) _ (h_lo x0 xs0 256 1280 256 rfl _ _ _ _ _ (operand c arg1 harg1 arg9 x0) (w_load arg8 harg8 xs0 256 _) (w_load arg8 harg8 xs0 1280 _) rfl (by decide)) (by decide)) ?_
  refine step_h (hidden x0 xs0) 1 (by decide) _ rfl _ _ _ _ rfl rfl (hscale_piece (hidden x0 xs0) 128 (by decide) _ (h_hi x0 xs0 0 1024 128 rfl _ _ _ _ _ (operand c arg1 harg1 arg9 x0) (w_load arg8 harg8 xs0 0 _) (w_load arg8 harg8 xs0 1024 _) rfl (by decide)) (by decide)) ?_
  refine step_h (hidden x0 xs0) 0 (by decide) _ rfl _ _ _ _ rfl rfl (hscale_piece (hidden x0 xs0) 0 (by decide) _ (h_lo x0 xs0 0 1024 0 rfl _ _ _ _ _ (operand c arg1 harg1 arg9 x0) (w_load arg8 harg8 xs0 0 _) (w_load arg8 harg8 xs0 1024 _) rfl (by decide)) (by decide)) ?_
  exact good_zero _ _

/-! The buffers read back. -/

/-- Result 0: the codes of the hidden values. -/
theorem out_3 (hc0 : ¬cond0_0 i) : out0_B_3 c i arg1 harg1 arg2 harg2 arg3 harg3 arg4 harg4 arg5 harg5 arg6 harg6 arg7 harg7 arg8 harg8 arg9 harg9 hc0 x0 x1 x2 xs0 = hcodes x0 xs0 := by
  unfold out0_B_3
  rw [View.read_writes_eq_canon _ _ _ (cover0_B_3 c i arg1 harg1 arg2 harg2 arg3 harg3 arg4 harg4 arg5 harg5 arg6 harg6 arg7 harg7 arg8 harg8 arg9 harg9 hc0 x0 x1 x2 xs0)]
  funext y
  exact View.canon_apply_of_pieces _ _ (hcodes_pieces c i arg1 harg1 arg2 harg2 arg3 harg3 arg4 harg4 arg5 harg5 arg6 harg6 arg7 harg7 arg8 harg8 arg9 harg9 x0 x1 x2 xs0 hc0).mem y (cover0_B_3 c i arg1 harg1 arg2 harg2 arg3 harg3 arg4 harg4 arg5 harg5 arg6 harg6 arg7 harg7 arg8 harg8 arg9 harg9 hc0 x0 x1 x2 xs0 y)

/-- Result 1: their scales. -/
theorem out_4 (hc0 : ¬cond0_0 i) : out0_B_4 c i arg1 harg1 arg2 harg2 arg3 harg3 arg4 harg4 arg5 harg5 arg6 harg6 arg7 harg7 arg8 harg8 arg9 harg9 hc0 x0 x1 x2 xs0 = hscales x0 xs0 := by
  unfold out0_B_4
  rw [View.read_writes_eq_canon _ _ _ (cover0_B_4 c i arg1 harg1 arg2 harg2 arg3 harg3 arg4 harg4 arg5 harg5 arg6 harg6 arg7 harg7 arg8 harg8 arg9 harg9 hc0 x0 x1 x2 xs0)]
  funext y
  exact View.canon_apply_of_pieces _ _ (hscales_pieces c i arg1 harg1 arg2 harg2 arg3 harg3 arg4 harg4 arg5 harg5 arg6 harg6 arg7 harg7 arg8 harg8 arg9 harg9 x0 x1 x2 xs0 hc0).mem y (cover0_B_4 c i arg1 harg1 arg2 harg2 arg3 harg3 arg4 harg4 arg5 harg5 arg6 harg6 arg7 harg7 arg8 harg8 arg9 harg9 hc0 x0 x1 x2 xs0 y)

/-- Result 2: the codes of the activations. -/
theorem out_5 (hc0 : ¬cond0_0 i) : out0_B_5 c i arg1 harg1 arg2 harg2 arg3 harg3 arg4 harg4 arg5 harg5 arg6 harg6 arg7 harg7 arg8 harg8 arg9 harg9 hc0 x0 x1 x2 xs0 = codes x0 := by
  unfold out0_B_5
  rw [View.read_writes_eq_canon _ _ _ (cover0_B_5 c i arg1 harg1 arg2 harg2 arg3 harg3 arg4 harg4 arg5 harg5 arg6 harg6 arg7 harg7 arg8 harg8 arg9 harg9 hc0 x0 x1 x2 xs0)]
  funext y
  exact View.canon_apply_of_pieces _ _ (codes_pieces c i arg1 harg1 arg2 harg2 arg3 harg3 arg4 harg4 arg5 harg5 arg6 harg6 arg7 harg7 arg8 harg8 arg9 harg9 x0 x1 x2 xs0 hc0).mem y (cover0_B_5 c i arg1 harg1 arg2 harg2 arg3 harg3 arg4 harg4 arg5 harg5 arg6 harg6 arg7 harg7 arg8 harg8 arg9 harg9 hc0 x0 x1 x2 xs0 y)

/-- Result 3: their scales. -/
theorem out_6 (hc0 : ¬cond0_0 i) : out0_B_6 c i arg1 harg1 arg2 harg2 arg3 harg3 arg4 harg4 arg5 harg5 arg6 harg6 arg7 harg7 arg8 harg8 arg9 harg9 hc0 x0 x1 x2 xs0 = xscales x0 := by
  unfold out0_B_6
  rw [View.read_writes_eq_canon _ _ _ (cover0_B_6 c i arg1 harg1 arg2 harg2 arg3 harg3 arg4 harg4 arg5 harg5 arg6 harg6 arg7 harg7 arg8 harg8 arg9 harg9 hc0 x0 x1 x2 xs0)]
  funext y
  exact View.canon_apply_of_pieces _ _ (scales_pieces c i arg1 harg1 arg2 harg2 arg3 harg3 arg4 harg4 arg5 harg5 arg6 harg6 arg7 harg7 arg8 harg8 arg9 harg9 x0 x1 x2 xs0 hc0).mem y (cover0_B_6 c i arg1 harg1 arg2 harg2 arg3 harg3 arg4 harg4 arg5 harg5 arg6 harg6 arg7 harg7 arg8 harg8 arg9 harg9 hc0 x0 x1 x2 xs0 y)

end Cert.KernelIdeal.BlockB

end
-- ==== Proof.Arrays.lean ====
module
public import proofs.«01_k».proof.Proof.BlockA
public import proofs.«01_k».proof.Proof.BlockB
public import proofs.«01_k».proof.Proof.Gen.KernelIdeal.Value
@[expose] public section
set_option maxRecDepth 16384
noncomputable section
namespace Cert.KernelIdeal.Arrays
open Idealize.ShloMosaic Idealize.ShloMosaic.TcCoe Idealize.ShloMosaic.Tactic Cert.KernelIdeal Cert.KernelIdeal.Gen
open Cert.KernelIdeal.Pieces Cert.Spec

/-! What the kernel's four result arrays hold after the run. -/

variable (m : (ℓ : Loc nD τ sig) → Buf (Elt Ideal) ℓ) (c : Dev nD)

/-- The activations as the kernel finds them: one row per token. -/
def acts : Vec Ideal S16384x4608 .bf16 := V m c main_v0

/-- The dequantised weights. -/
def wts : S4608x2048.Idx → Elt Ideal .bf16 := wdeqs (V m c main_arg1) (V m c main_arg2)

/-- The rows of activations at grid point `t`. -/
def rows (t : Fin cfg0.N) : Vec Ideal S256x4608 .bf16 := iblk m c 0 t

theorem weights_block (t : Fin cfg0.N) : (iblk m c 1 t : Vec Ideal S4608x2048 .fp8e4m3) = V m c main_arg1 := by
  have e : win0_1.index t (0 : Fin 2) = 0 ∧ win0_1.index t (1 : Fin 2) = 0 :=
    (by decide +kernel : ∀ t : Fin grid0.N, win0_1.index t (0 : Fin 2) = 0 ∧ win0_1.index t (1 : Fin 2) = 0) t
  funext y
  show V m c main_arg1 (((cfg0.win 1).blk t).view.emb y) = _
  refine congrArg (V m c main_arg1) ?_
  funext a
  apply Fin.ext
  match a with
  | ⟨0, _⟩ => show win0_1.index t (0 : Fin 2) * 4608 + 1 * (y 0).val = (y 0).val; rw [e.1]; omega
  | ⟨1, _⟩ => show win0_1.index t (1 : Fin 2) * 2048 + 1 * (y 1).val = (y 1).val; rw [e.2]; omega

theorem scales_block (t : Fin cfg0.N) : (iblk m c 2 t : Vec Ideal S36x16 .f32) = V m c main_arg2 := by
  have e : win0_2.index t (0 : Fin 2) = 0 ∧ win0_2.index t (1 : Fin 2) = 0 :=
    (by decide +kernel : ∀ t : Fin grid0.N, win0_2.index t (0 : Fin 2) = 0 ∧ win0_2.index t (1 : Fin 2) = 0) t
  funext y
  show V m c main_arg2 (((cfg0.win 2).blk t).view.emb y) = _
  refine congrArg (V m c main_arg2) ?_
  funext a
  apply Fin.ext
  match a with
  | ⟨0, _⟩ => show win0_2.index t (0 : Fin 2) * 36 + 1 * (y 0).val = (y 0).val; rw [e.1]; omega
  | ⟨1, _⟩ => show win0_2.index t (1 : Fin 2) * 16 + 1 * (y 1).val = (y 1).val; rw [e.2]; omega

theorem rows_apply (t : Fin cfg0.N) (r : Fin 256) (k : Fin 4608) (h : 256 * t.val + r.val < 16384) :
    rows m c t (ix2 r k) = acts m c (ix2 ⟨256 * t.val + r.val, h⟩ k) := by
  have e : win0_0.index t (0 : Fin 2) = t.val ∧ win0_0.index t (1 : Fin 2) = 0 :=
    (by decide +kernel : ∀ t : Fin grid0.N, win0_0.index t (0 : Fin 2) = t.val ∧ win0_0.index t (1 : Fin 2) = 0) t
  unfold rows acts
  show V m c main_v0 (((cfg0.win 0).blk t).view.emb (ix2 r k)) = _
  refine congrArg (V m c main_v0) ?_
  funext a
  apply Fin.ext
  match a with
  | ⟨0, _⟩ => show win0_0.index t (0 : Fin 2) * 256 + 1 * r.val = 256 * t.val + r.val; rw [e.1]; omega
  | ⟨1, _⟩ => show win0_0.index t (1 : Fin 2) * 4608 + 1 * k.val = k.val; rw [e.2]; omega

/-- The scratch holds the dequantised weights after every grid point. -/
theorem scratch : ∀ (n : ℕ) (hn : n < cfg0.N), (outsAt0 m c n hn).2.2.2.2 = wts m c := by
  intro n
  induction n with
  | zero =>
    intro hn
    rw [outsAt0_A m c ⟨0, hn⟩ rfl]
    dsimp only
    rw [BlockA.scratch, weights_block, scales_block]
    rfl
  | succ n ih =>
    intro hn
    have hN : n + 1 < 64 := lt_of_lt_of_eq hn N_0
    rw [outsAt0_B m c ⟨n + 1, hn⟩ (by show ¬(n + 1) % 64 = 0; omega)]
    exact ih _

/-- After a grid point the buffers hold its rows' results. -/
theorem outs (t : Fin cfg0.N) :
    outsAt0 m c t.val t.isLt = (hcodes (rows m c t) (wts m c), hscales (rows m c t) (wts m c), codes (rows m c t), xscales (rows m c t), wts m c) := by
  have hs := scratch m c t.val t.isLt
  by_cases h0 : t.val % 64 = 0
  · rw [outsAt0_A m c t h0] at hs ⊢
    dsimp only at hs ⊢
    rw [hs, BlockA.out_3, BlockA.out_4, BlockA.out_5, BlockA.out_6, weights_block, scales_block]
    rfl
  · rw [outsAt0_B m c t h0] at hs ⊢
    dsimp only at hs ⊢
    rw [hs, BlockB.out_3, BlockB.out_4, BlockB.out_5, BlockB.out_6, scratch]
    rfl

/-- Row `i` of the activations. -/
def arow (i : Fin 16384) : Fin 4608 → EReal := fun k => acts m c (ix2 i k)

/-- Row `i` of the hidden values. -/
def ahid (i : Fin 16384) : Fin 1024 → EReal := hrow (arow m c i) (fun k j => wts m c (ix2 k j))

theorem xrow_eq (t : Fin cfg0.N) (i : Fin 16384) (r : Fin 256) (h : 256 * t.val + r.val = i.val) :
    xrow (rows m c t) r = arow m c i := by
  funext k
  unfold xrow arow
  rw [rows_apply m c t r k (by rw [h]; exact i.isLt)]
  exact congrArg (fun j => acts m c (ix2 j k)) (Fin.ext h)

theorem hid_eq (t : Fin cfg0.N) (i : Fin 16384) (r : Fin 256) (h : 256 * t.val + r.val = i.val) :
    hidden (rows m c t) (wts m c) r = ahid m c i := by
  unfold Pieces.hidden ahid
  rw [xrow_eq m c t i r h]

/-- Result 0: the codes of the hidden values. -/
theorem array3 : (dats m 0 c).arrAt 3 cfg0.N = fun i : S16384x1024.Idx => code (ahid m c (i 0)) (i 1) := by
  rw [Value.final3]
  funext i
  have h0 : (i 0).val < 16384 := (i 0).isLt
  have h1 : (i 1).val < 1024 := (i 1).isLt
  have hp : Value.pt3Of i < cfg0.N := by
    rw [show cfg0.N = 64 from N_0]
    show 1 * ((i 0).val / 256 - 0) + 1 * ((i 1).val / 1024 - 0) < 64
    omega
  have hr : 256 * (⟨Value.pt3Of i, hp⟩ : Fin cfg0.N).val + (Value.loc3Of i 0).val = (i 0).val := by
    show 256 * (1 * ((i 0).val / 256 - 0) + 1 * ((i 1).val / 1024 - 0)) + (i 0).val % 256 = (i 0).val
    omega
  have hl : Value.loc3Of i 1 = i 1 := Fin.ext (Nat.mod_eq_of_lt h1)
  unfold Value.G3
  rw [dif_pos hp, ← Value.outsAt0_sweep m c _ hp, outs m c ⟨Value.pt3Of i, hp⟩]
  show hcodes _ _ (Value.loc3Of i) = _
  unfold hcodes
  rw [hid_eq m c _ (i 0) _ hr, hl]

/-- Result 1: the scales of the hidden values. -/
theorem array4 : (dats m 0 c).arrAt 4 cfg0.N = fun i : S16384x8.Idx => scale (ahid m c (i 0)) (i 1).val := by
  rw [Value.final4]
  funext i
  have h0 : (i 0).val < 16384 := (i 0).isLt
  have h1 : (i 1).val < 8 := (i 1).isLt
  have hp : Value.pt4Of i < cfg0.N := by
    rw [show cfg0.N = 64 from N_0]
    show 1 * ((i 0).val / 256 - 0) + 1 * ((i 1).val / 8 - 0) < 64
    omega
  have hr : 256 * (⟨Value.pt4Of i, hp⟩ : Fin cfg0.N).val + (Value.loc4Of i 0).val = (i 0).val := by
    show 256 * (1 * ((i 0).val / 256 - 0) + 1 * ((i 1).val / 8 - 0)) + (i 0).val % 256 = (i 0).val
    omega
  have hl : Value.loc4Of i 1 = i 1 := Fin.ext (Nat.mod_eq_of_lt h1)
  unfold Value.G4
  rw [dif_pos hp, ← Value.outsAt0_sweep m c _ hp, outs m c ⟨Value.pt4Of i, hp⟩]
  show hscales _ _ (Value.loc4Of i) = _
  unfold hscales
  rw [hid_eq m c _ (i 0) _ hr, hl]

/-- Result 2: the codes of the activations. -/
theorem array5 : (dats m 0 c).arrAt 5 cfg0.N = fun i : S16384x4608.Idx => code (arow m c (i 0)) (i 1) := by
  rw [Value.final5]
  funext i
  have h0 : (i 0).val < 16384 := (i 0).isLt
  have h1 : (i 1).val < 4608 := (i 1).isLt
  have hp : Value.pt5Of i < cfg0.N := by
    rw [show cfg0.N = 64 from N_0]
    show 1 * ((i 0).val / 256 - 0) + 1 * ((i 1).val / 4608 - 0) < 64
    omega
  have hr : 256 * (⟨Value.pt5Of i, hp⟩ : Fin cfg0.N).val + (Value.loc5Of i 0).val = (i 0).val := by
    show 256 * (1 * ((i 0).val / 256 - 0) + 1 * ((i 1).val / 4608 - 0)) + (i 0).val % 256 = (i 0).val
    omega
  have hl : Value.loc5Of i 1 = i 1 := Fin.ext (Nat.mod_eq_of_lt h1)
  unfold Value.G5
  rw [dif_pos hp, ← Value.outsAt0_sweep m c _ hp, outs m c ⟨Value.pt5Of i, hp⟩]
  show codes _ (Value.loc5Of i) = _
  unfold codes
  rw [xrow_eq m c _ (i 0) _ hr, hl]

/-- Result 3: the scales of the activations. -/
theorem array6 : (dats m 0 c).arrAt 6 cfg0.N = fun i : S16384x36.Idx => scale (arow m c (i 0)) (i 1).val := by
  rw [Value.final6]
  funext i
  have h0 : (i 0).val < 16384 := (i 0).isLt
  have h1 : (i 1).val < 36 := (i 1).isLt
  have hp : Value.pt6Of i < cfg0.N := by
    rw [show cfg0.N = 64 from N_0]
    show 1 * ((i 0).val / 256 - 0) + 1 * ((i 1).val / 36 - 0) < 64
    omega
  have hr : 256 * (⟨Value.pt6Of i, hp⟩ : Fin cfg0.N).val + (Value.loc6Of i 0).val = (i 0).val := by
    show 256 * (1 * ((i 0).val / 256 - 0) + 1 * ((i 1).val / 36 - 0)) + (i 0).val % 256 = (i 0).val
    omega
  have hl : Value.loc6Of i 1 = i 1 := Fin.ext (Nat.mod_eq_of_lt h1)
  unfold Value.G6
  rw [dif_pos hp, ← Value.outsAt0_sweep m c _ hp, outs m c ⟨Value.pt6Of i, hp⟩]
  show xscales _ (Value.loc6Of i) = _
  unfold xscales
  rw [xrow_eq m c _ (i 0) _ hr, hl]

end Cert.KernelIdeal.Arrays

end
-- ==== Proof.Reference.lean ====
/- What the reference's four results hold, read at an index. -/
module

public import proofs.«01_k».proof.Proof.Spec
public import proofs.«01_k».proof.Proof.Gen.ReferenceIdeal.Frame
public import Idealize.ShloMosaic.Lib.Pipeline.Value
public import Idealize.ShloMosaic.Lib.Pipeline.ReadBack
public import Idealize.ShloMosaic.Lib.Pointwise

@[expose] public section

set_option maxRecDepth 16384

noncomputable section

namespace Cert.ReferenceIdeal.Out

open Idealize.ShloMosaic Idealize.ShloMosaic.TcCoe Idealize.ShloMosaic.Tactic Cert.ReferenceIdeal Cert.ReferenceIdeal.Gen
open Cert.Spec Cert.Quant

/-- A maximum over groups of 128. -/
theorem max_groups {M G : ℕ} (v : FVec Ideal ⟨3, ![M, G, 128]⟩ .f32) (h : (⟨3, ![M, G, 128]⟩ : Shape).Reduces [2] ⟨2, ![M, G]⟩) (h1) (h2)
    (i : Fin M) (g : Fin G) :
    multiReduction .maximumf [2] ⟨2, ![M, G]⟩ v 0xFF800000#32 h h1 h2 (ix2 i g)
      = Finset.univ.fold max (Ideal.ofBits .f32 0xFF800000#32) fun l : Fin 128 => v (ix3 i g l) := by
  simp only [pointwise]

theorem select_lt (p q x y : EReal) :
    Scalar.select (FloatOps.cmpf (F := Ideal) (φ := .f32) .olt p q) x y = if p < q then x else y := by
  pointwise

/-- The exponents of the groups of an array, as the reference computes them. -/
def expo {M G : ℕ} (v : FVec Ideal ⟨3, ![M, G, 128]⟩ .f32) (h : (⟨3, ![M, G, 128]⟩ : Shape).Reduces [2] ⟨2, ![M, G]⟩) :
    FVec Ideal ⟨2, ![M, G]⟩ .f32 :=
  have p : FVec Ideal ⟨2, ![M, G]⟩ .f32 := mulf (multiReduction .maximumf [2] ⟨2, ![M, G]⟩ (absf v) 0xFF800000#32 h (.inl rfl) rfl)
    (broadcast ⟨2, ![M, G]⟩ (Scalar.ofBits .f32 0x3B124925#32))
  have q : FVec Ideal ⟨2, ![M, G]⟩ .f32 := divf (log p) (log (broadcast ⟨2, ![M, G]⟩ (Scalar.ofBits .f32 0x40000000#32)))
  select (cmpf .olt p (broadcast ⟨2, ![M, G]⟩ (Scalar.ofBits .f32 0x00800000#32)))
    (broadcast ⟨2, ![M, G]⟩ (Scalar.ofBits .f32 0x00000000#32))
    (minimumf (addf (floor q) (broadcast ⟨2, ![M, G]⟩ (Scalar.ofBits .f32 0x3F800000#32)))
      (broadcast ⟨2, ![M, G]⟩ (Scalar.ofBits .f32 0x42FC0000#32)))

theorem expo_apply {M G : ℕ} (v : FVec Ideal ⟨3, ![M, G, 128]⟩ .f32) (h) (i : Fin M) (g : Fin G) :
    expo v h (ix2 i g) = qexp (gp fun l => v (ix3 i g l)) := by
  have hp : (mulf (multiReduction .maximumf [2] ⟨2, ![M, G]⟩ (absf v) 0xFF800000#32 h (.inl rfl) rfl)
      (broadcast ⟨2, ![M, G]⟩ (Scalar.ofBits .f32 0x3B124925#32)) : FVec Ideal ⟨2, ![M, G]⟩ .f32) (ix2 i g) = gp fun l => v (ix3 i g l) := by
    exact congrArg (fun t : EReal => t * Ideal.ofBits .f32 0x3B124925#32) (max_groups (absf v) h (.inl rfl) rfl i g)
  unfold expo qexp
  dsimp only
  rw [ValueIdx.select_apply, ValueIdx.cmpf_apply, minimumf_apply, addf_apply, floor_apply, divf_apply, log_apply, log_apply, hp]
  exact select_lt _ _ _ _

/-- The activations, grouped. -/
theorem grouped (x : Vec Ideal S16384x4608 .bf16) (i : Fin 16384) (g : Fin 36) (l : Fin 128) :
    k0_pay2 (F := Ideal) x (ix3 i g l) = x (ix2 i ⟨128 * g.val + l.val, by omega⟩) := by
  unfold k0_pay2
  pointwise
  exact congrArg (fun j => x (ix2 i j)) (Fin.ext (by show g.val * 128 + l.val = 128 * g.val + l.val; omega))

/-- Row `i` of the activations. -/
def row (x : Vec Ideal S16384x4608 .bf16) (i : Fin 16384) : Fin 4608 → EReal := fun k => x (ix2 i k)

theorem row_group (x : Vec Ideal S16384x4608 .bf16) (i : Fin 16384) (g : Fin 36) :
    grp (row x i) g.val = fun l => k0_pay2 (F := Ideal) x (ix3 i g l) :=
  grp_eq _ _ _ (by omega) fun l => grouped x i g l

theorem xexp (x : Vec Ideal S16384x4608 .bf16) (i : Fin 16384) (g : Fin 36) :
    k0_pay3 (F := Ideal) x (ix2 i g) = qexp (gp (grp (row x i) g.val)) := by
  rw [row_group]
  exact expo_apply (k0_pay2 x) reduces_S16384x36x128_S16384x36 i g

/-- The scales of the activations. -/
theorem xscale (x : Vec Ideal S16384x4608 .bf16) (i : Fin 16384) (g : Fin 36) :
    k0_pay4 (F := Ideal) x (ix2 i g) = scale (row x i) g.val := by
  unfold k0_pay4 scale qscale
  rw [exp2_apply, xexp]
  rfl

/-- Each value of a group times the group's factor, clipped. -/
theorem clip36 (a : FVec Ideal S16384x36x128 .f32) (w : FVec Ideal S16384x36 .f32) (i : Fin 16384) (k : Fin 4608) :
    shapeCast S16384x4608 (truncf .fp8e4m3 (minimumf (broadcast S16384x36x128 (Scalar.ofBits .f32 0x43E00000#32))
      (maximumf (broadcast S16384x36x128 (Scalar.ofBits .f32 0xC3E00000#32))
        (mulf a (broadcastTo S16384x36x128 (shapeCast S16384x36x1 w shapeCasts_S16384x36_S16384x36x1)
          broadcasts_S16384x36x1_S16384x36x128)))) bitsLt_fp8e4m3_f32) shapeCasts_S16384x36x128_S16384x4608 (ix2 i k)
      = min (Ideal.ofBits .f32 0x43E00000#32) (max (Ideal.ofBits .f32 0xC3E00000#32)
          (a (ix3 i ⟨k.val / 128, by omega⟩ ⟨k.val % 128, by omega⟩) * w (ix2 i ⟨k.val / 128, by omega⟩))) := by
  pointwise

/-- The codes of the activations. -/
theorem xcode (x : Vec Ideal S16384x4608 .bf16) (i : Fin 16384) (k : Fin 4608) :
    k0_pay5 (F := Ideal) x (ix2 i k) = code (row x i) k := by
  refine (clip36 (k0_pay2 x) (exp2 (subf (broadcast S16384x36 (Scalar.ofBits .f32 0x00000000#32)) (k0_pay3 x))) i k).trans ?_
  rw [exp2_apply, subf_apply, xexp, grouped]
  have e : (⟨128 * (k.val / 128) + k.val % 128, by omega⟩ : Fin 4608) = k := Fin.ext (Nat.div_add_mod _ _)
  show min _ (max _ (x (ix2 i ⟨128 * (k.val / 128) + k.val % 128, _⟩) * _)) = _
  rw [e]
  rfl

/-- The dequantised activations. -/
theorem xdeq (x : Vec Ideal S16384x4608 .bf16) (i : Fin 16384) (k : Fin 4608) :
    k0_pay6 (F := Ideal) x (ix2 i k) = xbar (row x i) k := by
  unfold k0_pay6
  pointwise
  rw [xcode, xscale]
  rfl

/-- The hidden values of row `i`. -/
def hid (x : Vec Ideal S16384x4608 .bf16) (w : Vec Ideal S4608x2048 .fp8e4m3) (s : Vec Ideal S36x16 .f32) (i : Fin 16384) :
    Fin 1024 → EReal :=
  hrow (row x i) (wbar (fun k j => w (ix2 k j)) (fun g n => s (ix2 g n)))

/-- The hidden values, grouped: products of any left operand with the dequantised weights. -/
theorem hgrouped (s : Vec Ideal S36x16 .f32) (a : FVec Ideal S16384x4608 .bf16) (b : FVec Ideal S4608x2048 .bf16) (i : Fin 16384) (g : Fin 8)
    (l : Fin 128) :
    k0_pay8 (F := Ideal) s a b (ix3 i g l)
      = geglu (∑ k, a (ix2 i k) * wbar (fun k j => b (ix2 k j)) (fun g n => s (ix2 g n)) k ⟨128 * g.val + l.val, by omega⟩)
        (∑ k, a (ix2 i k) * wbar (fun k j => b (ix2 k j)) (fun g n => s (ix2 g n)) k ⟨1024 + (128 * g.val + l.val), by omega⟩) := by
  have key : ∀ (k : Fin 4608) (t u : ℕ) (h1 : u / 128 * 128 + l.val < 2048) (h2 : u / 128 < 16) (ht : u = t) (hl : t % 128 = l.val)
      (h3 : t < 2048) (h4 : k.val / 128 < 36),
      b (ix2 k ⟨u / 128 * 128 + l.val, h1⟩) * s (ix2 ⟨k.val / 128, h4⟩ ⟨u / 128, h2⟩)
        = wbar (fun k j => b (ix2 k j)) (fun g n => s (ix2 g n)) k ⟨t, h3⟩ := by
    intro k t u h1 h2 ht hl h3 h4
    subst ht
    unfold wbar
    have e : (⟨u / 128 * 128 + l.val, h1⟩ : Fin 2048) = ⟨u, h3⟩ := Fin.ext (by show u / 128 * 128 + l.val = u; omega)
    rw [e]
  unfold k0_pay8
  pointwise
  simp only [key _ (128 * g.val + l.val) (g.val * 128 + l.val) _ _ (by omega) (by omega) (by omega) _,
    key _ (1024 + (128 * g.val + l.val)) (1024 + (g.val * 128 + l.val)) _ _ (by omega) (by omega) (by omega) _]
  rfl

section

variable (x : Vec Ideal S16384x4608 .bf16) (w : Vec Ideal S4608x2048 .fp8e4m3) (s : Vec Ideal S36x16 .f32)

theorem hidden_apply (i : Fin 16384) (g : Fin 8) (l : Fin 128) :
    k0_pay8 (F := Ideal) s (k0_pay6 x) (k0_pay7 w) (ix3 i g l) = hid x w s i ⟨128 * g.val + l.val, by omega⟩ := by
  rw [hgrouped]
  simp only [xdeq]
  rfl

theorem hid_group (i : Fin 16384) (g : Fin 8) :
    grp (hid x w s i) g.val = fun l => k0_pay8 (F := Ideal) s (k0_pay6 x) (k0_pay7 w) (ix3 i g l) :=
  grp_eq _ _ _ (by omega) fun l => hidden_apply x w s i g l

theorem hexp (i : Fin 16384) (g : Fin 8) :
    k0_pay9 (F := Ideal) s (k0_pay6 x) (k0_pay7 w) (ix2 i g) = qexp (gp (grp (hid x w s i) g.val)) := by
  rw [hid_group]
  exact expo_apply (k0_pay8 s (k0_pay6 x) (k0_pay7 w)) reduces_S16384x8x128_S16384x8 i g

/-- The scales of the hidden values. -/
theorem hscale (i : Fin 16384) (g : Fin 8) :
    k0_pay10 (F := Ideal) s (k0_pay6 x) (k0_pay7 w) (ix2 i g) = scale (hid x w s i) g.val := by
  unfold k0_pay10 scale qscale
  rw [exp2_apply, hexp]
  rfl

theorem spread8 (v : FVec Ideal S16384x8 .f32) (i : Fin 16384) (g : Fin 8) (l : Fin 128) :
    broadcastTo S16384x8x128 (shapeCast S16384x8x1 v shapeCasts_S16384x8_S16384x8x1) broadcasts_S16384x8x1_S16384x8x128 (ix3 i g l)
      = v (ix2 i g) := by
  pointwise

theorem hinv (i : Fin 16384) (g : Fin 8) (l : Fin 128) :
    k0_pay11 (F := Ideal) s (k0_pay6 x) (k0_pay7 w) (ix3 i g l) = qinv (gp (grp (hid x w s i) g.val)) := by
  refine (spread8 (exp2 (subf (broadcast S16384x8 (Scalar.ofBits .f32 0x00000000#32)) (k0_pay9 s (k0_pay6 x) (k0_pay7 w)))) i g l).trans ?_
  rw [exp2_apply, subf_apply, hexp]
  rfl

theorem clip8 (a b : FVec Ideal S16384x8x128 .f32) (i : Fin 16384) (k : Fin 1024) :
    k0_pay1 (F := Ideal) a b (ix2 i k) = min (Ideal.ofBits .f32 0x43E00000#32) (max (Ideal.ofBits .f32 0xC3E00000#32)
      (a (ix3 i ⟨k.val / 128, by omega⟩ ⟨k.val % 128, by omega⟩) * b (ix3 i ⟨k.val / 128, by omega⟩ ⟨k.val % 128, by omega⟩))) := by
  unfold k0_pay1
  pointwise

/-- The codes of the hidden values. -/
theorem hcode (i : Fin 16384) (k : Fin 1024) :
    k0_pay1 (F := Ideal) (k0_pay8 s (k0_pay6 x) (k0_pay7 w)) (k0_pay11 s (k0_pay6 x) (k0_pay7 w)) (ix2 i k) = code (hid x w s i) k := by
  rw [clip8, hidden_apply, hinv]
  have e : (⟨128 * (k.val / 128) + k.val % 128, by omega⟩ : Fin 1024) = k := Fin.ext (Nat.div_add_mod _ _)
  show min _ (max _ (hid x w s i ⟨128 * (k.val / 128) + k.val % 128, _⟩ * _)) = _
  rw [e]
  rfl

end

end Cert.ReferenceIdeal.Out

end
-- ==== Proof.ReferenceArrays.lean ====
/- What the reference's four result arrays hold after its run. -/
module

public import proofs.«01_k».proof.Proof.Reference

@[expose] public section

set_option maxRecDepth 16384

noncomputable section

namespace Cert.ReferenceIdeal.Out

open Idealize.ShloMosaic Idealize.ShloMosaic.TcCoe Idealize.ShloMosaic.Tactic Cert.ReferenceIdeal Cert.ReferenceIdeal.Gen Idealize.SL.Sem
open Cert.Spec Cert.Quant

variable (m : (ℓ : Loc nD τ sig) → Buf (Elt Ideal) ℓ) (ρ : Dev nD → PrngReg) (c : Dev nD)

/-- The activations as the reference finds them: one row per token. -/
def acts : Vec Ideal S16384x4608 .bf16 := V m c main_v0

/-- The hidden values of row `i`. -/
def hids (i : Fin 16384) : Fin 1024 → EReal := hid (acts m c) (V m c main_arg1) (V m c main_arg2) i

theorem hz : (![0, 0] : Fin 2 → Nat) = fun _ => 0 := funext fun a => match a with | ⟨0, _⟩ => rfl | ⟨1, _⟩ => rfl

theorem block0 (t : Fin cfg0.N) : (iblk m c 0 t : Vec Ideal S16384x4608 .bf16) = V m c main_v0 := by
  funext y
  show V m c main_v0 (((cfg0.win 0).blk t).view.emb y) = _
  refine congrArg (V m c main_v0) (funext fun a => Fin.ext ?_)
  match a with
  | ⟨0, _⟩ => show 0 * 16384 + 1 * (y 0).val = (y 0).val; omega
  | ⟨1, _⟩ => show 0 * 4608 + 1 * (y 1).val = (y 1).val; omega

theorem block1 (t : Fin cfg0.N) : (iblk m c 1 t : Vec Ideal S4608x2048 .fp8e4m3) = V m c main_arg1 := by
  funext y
  show V m c main_arg1 (((cfg0.win 1).blk t).view.emb y) = _
  refine congrArg (V m c main_arg1) (funext fun a => Fin.ext ?_)
  match a with
  | ⟨0, _⟩ => show 0 * 4608 + 1 * (y 0).val = (y 0).val; omega
  | ⟨1, _⟩ => show 0 * 2048 + 1 * (y 1).val = (y 1).val; omega

theorem block2 (t : Fin cfg0.N) : (iblk m c 2 t : Vec Ideal S36x16 .f32) = V m c main_arg2 := by
  funext y
  show V m c main_arg2 (((cfg0.win 2).blk t).view.emb y) = _
  refine congrArg (V m c main_arg2) (funext fun a => Fin.ext ?_)
  match a with
  | ⟨0, _⟩ => show 0 * 36 + 1 * (y 0).val = (y 0).val; omega
  | ⟨1, _⟩ => show 0 * 16 + 1 * (y 1).val = (y 1).val; omega

/-- Result 0: the codes of the hidden values. -/
def G3 : S16384x1024.Idx → Elt Ideal .fp8e4m3 := fun i => code (hids m c (i 0)) (i 1)

theorem flushed3 (t : Fin cfg0.N) : (dats m 0 c).flushed 3 t = (win0_3.blk t).view.read (Elt Ideal) (G3 m c) := by
  have e : (dats m 0 c).after 3 t = G3 m c := by
    rw [after0_3]
    unfold out0_3 k0_pay12 k0_pay13
    rw [View.canon_unit_zero hz, View.ld_unit_zero hz, View.ld_unit_zero hz, View.ld_unit_zero hz, block0, block1, block2]
    funext i
    rw [← ix2_eta i]
    exact hcode _ _ _ _ _
  show (cfg0.win 3).cut (grid0.coords t) ((dats m 0 c).after 3 t) = _
  rw [e]
  funext y
  show G3 m c _ = G3 m c _
  refine congrArg (G3 m c) (funext fun a => Fin.ext ?_)
  match a with
  | ⟨0, _⟩ => show (y 0).val = 0 * 16384 + 1 * (y 0).val; omega
  | ⟨1, _⟩ => show (y 1).val = 0 * 1024 + 1 * (y 1).val; omega

theorem cover3 (i : S16384x1024.Idx) : ∃ t : Fin cfg0.N, (cfg0.win 3).flush t = true ∧ i ∈ ((cfg0.win 3).blk t).view.set := by
  have hN : cfg0.N = 1 := N_0
  have h0 : (i 0).val < 16384 := (i 0).isLt
  have h1 : (i 1).val < 1024 := (i 1).isLt
  have t : Fin cfg0.N := ⟨0, by omega⟩
  refine ⟨t, flush0_3 t, ?_⟩
  show i ∈ ((View.whole main_v1_0).slice (win0_3.rect t)).set
  rw [View.set_slice_whole, Rect.mem_set_unit]
  intro a
  match a with
  | ⟨0, _⟩ => show 0 * 16384 ≤ (i 0).val ∧ (i 0).val < 0 * 16384 + 16384; omega
  | ⟨1, _⟩ => show 0 * 1024 ≤ (i 1).val ∧ (i 1).val < 0 * 1024 + 1024; omega

theorem array3 : (dats m 0 c).arrAt 3 cfg0.N = G3 m c :=
  (dats m 0 c).arrAt_eq_of_cover 3 (G3 m c) (fun t _ => flushed3 m c t) (cover3)

/-- Result 1: the scales of the hidden values. -/
def G4 : S16384x8.Idx → Elt Ideal .f32 := fun i => scale (hids m c (i 0)) (i 1).val

theorem flushed4 (t : Fin cfg0.N) : (dats m 0 c).flushed 4 t = (win0_4.blk t).view.read (Elt Ideal) (G4 m c) := by
  have e : (dats m 0 c).after 4 t = G4 m c := by
    rw [after0_4]
    unfold out0_4 k0_pay12 k0_pay13
    rw [View.canon_unit_zero hz, View.ld_unit_zero hz, View.ld_unit_zero hz, View.ld_unit_zero hz, block0, block1, block2]
    funext i
    rw [← ix2_eta i]
    exact hscale _ _ _ _ _
  show (cfg0.win 4).cut (grid0.coords t) ((dats m 0 c).after 4 t) = _
  rw [e]
  funext y
  show G4 m c _ = G4 m c _
  refine congrArg (G4 m c) (funext fun a => Fin.ext ?_)
  match a with
  | ⟨0, _⟩ => show (y 0).val = 0 * 16384 + 1 * (y 0).val; omega
  | ⟨1, _⟩ => show (y 1).val = 0 * 8 + 1 * (y 1).val; omega

theorem cover4 (i : S16384x8.Idx) : ∃ t : Fin cfg0.N, (cfg0.win 4).flush t = true ∧ i ∈ ((cfg0.win 4).blk t).view.set := by
  have hN : cfg0.N = 1 := N_0
  have h0 : (i 0).val < 16384 := (i 0).isLt
  have h1 : (i 1).val < 8 := (i 1).isLt
  have t : Fin cfg0.N := ⟨0, by omega⟩
  refine ⟨t, flush0_4 t, ?_⟩
  show i ∈ ((View.whole main_v1_1).slice (win0_4.rect t)).set
  rw [View.set_slice_whole, Rect.mem_set_unit]
  intro a
  match a with
  | ⟨0, _⟩ => show 0 * 16384 ≤ (i 0).val ∧ (i 0).val < 0 * 16384 + 16384; omega
  | ⟨1, _⟩ => show 0 * 8 ≤ (i 1).val ∧ (i 1).val < 0 * 8 + 8; omega

theorem array4 : (dats m 0 c).arrAt 4 cfg0.N = G4 m c :=
  (dats m 0 c).arrAt_eq_of_cover 4 (G4 m c) (fun t _ => flushed4 m c t) (cover4)

/-- Result 2: the codes of the activations. -/
def G5 : S16384x4608.Idx → Elt Ideal .fp8e4m3 := fun i => code (row (acts m c) (i 0)) (i 1)

theorem flushed5 (t : Fin cfg0.N) : (dats m 0 c).flushed 5 t = (win0_5.blk t).view.read (Elt Ideal) (G5 m c) := by
  have e : (dats m 0 c).after 5 t = G5 m c := by
    rw [after0_5]
    unfold out0_5
    rw [View.canon_unit_zero hz, View.ld_unit_zero hz, block0]
    funext i
    rw [← ix2_eta i]
    exact xcode _ _ _
  show (cfg0.win 5).cut (grid0.coords t) ((dats m 0 c).after 5 t) = _
  rw [e]
  funext y
  show G5 m c _ = G5 m c _
  refine congrArg (G5 m c) (funext fun a => Fin.ext ?_)
  match a with
  | ⟨0, _⟩ => show (y 0).val = 0 * 16384 + 1 * (y 0).val; omega
  | ⟨1, _⟩ => show (y 1).val = 0 * 4608 + 1 * (y 1).val; omega

theorem cover5 (i : S16384x4608.Idx) : ∃ t : Fin cfg0.N, (cfg0.win 5).flush t = true ∧ i ∈ ((cfg0.win 5).blk t).view.set := by
  have hN : cfg0.N = 1 := N_0
  have h0 : (i 0).val < 16384 := (i 0).isLt
  have h1 : (i 1).val < 4608 := (i 1).isLt
  have t : Fin cfg0.N := ⟨0, by omega⟩
  refine ⟨t, flush0_5 t, ?_⟩
  show i ∈ ((View.whole main_v1_2).slice (win0_5.rect t)).set
  rw [View.set_slice_whole, Rect.mem_set_unit]
  intro a
  match a with
  | ⟨0, _⟩ => show 0 * 16384 ≤ (i 0).val ∧ (i 0).val < 0 * 16384 + 16384; omega
  | ⟨1, _⟩ => show 0 * 4608 ≤ (i 1).val ∧ (i 1).val < 0 * 4608 + 4608; omega

theorem array5 : (dats m 0 c).arrAt 5 cfg0.N = G5 m c :=
  (dats m 0 c).arrAt_eq_of_cover 5 (G5 m c) (fun t _ => flushed5 m c t) (cover5)

/-- Result 3: the scales of the activations. -/
def G6 : S16384x36.Idx → Elt Ideal .f32 := fun i => scale (row (acts m c) (i 0)) (i 1).val

theorem flushed6 (t : Fin cfg0.N) : (dats m 0 c).flushed 6 t = (win0_6.blk t).view.read (Elt Ideal) (G6 m c) := by
  have e : (dats m 0 c).after 6 t = G6 m c := by
    rw [after0_6]
    unfold out0_6
    rw [View.canon_unit_zero hz, View.ld_unit_zero hz, block0]
    funext i
    rw [← ix2_eta i]
    exact xscale _ _ _
  show (cfg0.win 6).cut (grid0.coords t) ((dats m 0 c).after 6 t) = _
  rw [e]
  funext y
  show G6 m c _ = G6 m c _
  refine congrArg (G6 m c) (funext fun a => Fin.ext ?_)
  match a with
  | ⟨0, _⟩ => show (y 0).val = 0 * 16384 + 1 * (y 0).val; omega
  | ⟨1, _⟩ => show (y 1).val = 0 * 36 + 1 * (y 1).val; omega

theorem cover6 (i : S16384x36.Idx) : ∃ t : Fin cfg0.N, (cfg0.win 6).flush t = true ∧ i ∈ ((cfg0.win 6).blk t).view.set := by
  have hN : cfg0.N = 1 := N_0
  have h0 : (i 0).val < 16384 := (i 0).isLt
  have h1 : (i 1).val < 36 := (i 1).isLt
  have t : Fin cfg0.N := ⟨0, by omega⟩
  refine ⟨t, flush0_6 t, ?_⟩
  show i ∈ ((View.whole main_v1_3).slice (win0_6.rect t)).set
  rw [View.set_slice_whole, Rect.mem_set_unit]
  intro a
  match a with
  | ⟨0, _⟩ => show 0 * 16384 ≤ (i 0).val ∧ (i 0).val < 0 * 16384 + 16384; omega
  | ⟨1, _⟩ => show 0 * 36 ≤ (i 1).val ∧ (i 1).val < 0 * 36 + 36; omega

theorem array6 : (dats m 0 c).arrAt 6 cfg0.N = G6 m c :=
  (dats m 0 c).arrAt_eq_of_cover 6 (G6 m c) (fun t _ => flushed6 m c t) (cover6)

/-- The run, read: the four result arrays, and the arguments unchanged. -/
theorem run : θ_run defs (onTc (τ := τ) (main (F := Ideal))) ⟨m, fun _ => 0, ρ⟩ fun r => ∀ c : Dev nD,
      r.2.mem ((c : Thread nD τ).loc main_v1_0) = G3 m c
      ∧ r.2.mem ((c : Thread nD τ).loc main_v1_1) = G4 m c
      ∧ r.2.mem ((c : Thread nD τ).loc main_v1_2) = G5 m c
      ∧ r.2.mem ((c : Thread nD τ).loc main_v1_3) = G6 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨((h c).1 3).trans (array3 m c), ((h c).1 4).trans (array4 m c),
      ((h c).1 5).trans (array5 m c), ((h c).1 6).trans (array6 m c),
      ((h c).2 main_arg0 (Pipeline.mem_restRefs_of main_arg0 (by decide) (by decide))).trans (V_main_arg0 m c),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.ReferenceIdeal.Out

end
-- ==== Proof.Algebraic.lean ====
/- The kernel's four results and the reference's are the same functions of the arguments. -/
module

public import proofs.«01_k».proof.Defs
public import proofs.«01_k».proof.Proof.Arrays
public import proofs.«01_k».proof.Proof.ReferenceArrays

@[expose] public section

set_option maxRecDepth 16384

noncomputable section

namespace Cert.KernelIdeal.Arrays

open Idealize.ShloMosaic Idealize.ShloMosaic.TcCoe Cert.KernelIdeal Cert.KernelIdeal.Gen

/-- The kernel finds the activations as one row per token: the argument, reshaped. -/
theorem acts_eq (m : (ℓ : Loc nD τ sig) → Buf (Elt Ideal) ℓ) (c : Dev nD) :
    acts m c = shapeCast S16384x4608 (m ((c : Thread nD τ).loc main_arg0)) shapeCasts_S4x4096x4608_S16384x4608 := by
  unfold acts
  show StableHlo.after hostOps0 _ (Proc.devRef .tc main_v0) = _
  after_results
  rfl

end Cert.KernelIdeal.Arrays

namespace Cert.ReferenceIdeal.Out

open Idealize.ShloMosaic Idealize.ShloMosaic.TcCoe Cert.ReferenceIdeal Cert.ReferenceIdeal.Gen

/-- So does the reference. -/
theorem acts_eq (m : (ℓ : Loc nD τ sig) → Buf (Elt Ideal) ℓ) (c : Dev nD) :
    acts m c = shapeCast S16384x4608 (m ((c : Thread nD τ).loc main_arg0)) shapeCasts_S4x4096x4608_S16384x4608 := by
  unfold acts
  show StableHlo.after hostOps0 _ (Proc.devRef .tc main_v0) = _
  after_results
  rfl

end Cert.ReferenceIdeal.Out

namespace Cert.Proof

open Idealize.ShloMosaic Idealize.SL.Sem Cert.Spec

section

variable {m : (ℓ : Loc Cert.KernelIdeal.nD Cert.KernelIdeal.τ Cert.KernelIdeal.sig) → Buf (Elt Ideal) ℓ}
  {m' : (ℓ : Loc Cert.ReferenceIdeal.nD Cert.ReferenceIdeal.τ Cert.ReferenceIdeal.sig) → Buf (Elt Ideal) ℓ} {c : Dev Cert.KernelIdeal.nD}

/-- Equal arguments give equal rows of activations. -/
theorem rows_eq
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0)) (i : Fin 16384) :
    Cert.ReferenceIdeal.Out.row (Cert.ReferenceIdeal.Out.acts m' c) i = Cert.KernelIdeal.Arrays.arow m c i := by
  unfold Cert.ReferenceIdeal.Out.row Cert.KernelIdeal.Arrays.arow
  rw [Cert.ReferenceIdeal.Out.acts_eq, Cert.KernelIdeal.Arrays.acts_eq, h0]

/-- Equal arguments give equal hidden values. -/
theorem hids_eq
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2)) (i : Fin 16384) :
    Cert.ReferenceIdeal.Out.hids m' c i = Cert.KernelIdeal.Arrays.ahid m c i := by
  unfold Cert.ReferenceIdeal.Out.hids Cert.ReferenceIdeal.Out.hid Cert.KernelIdeal.Arrays.ahid Cert.KernelIdeal.Arrays.wts
  rw [rows_eq h0, Cert.ReferenceIdeal.Gen.V_main_arg1, Cert.ReferenceIdeal.Gen.V_main_arg2, Cert.KernelIdeal.Gen.V_main_arg1,
    Cert.KernelIdeal.Gen.V_main_arg2, h1, h2]
  rfl

end

/-- Both programs run, and from equal arguments all four results are equal. -/
theorem algebraic : Cert.algebraic_KernelIdeal_ReferenceIdeal (hKernelIdeal := Cert.KernelIdeal.Gen.facts)
    (hReferenceIdeal := Cert.ReferenceIdeal.Gen.facts) := by
  intro m g m' g' _ hargs
  refine ⟨fun c => (Cert.KernelIdeal.Gen.dats m 0 c).arrAt 3 Cert.KernelIdeal.cfg0.N,
    fun c => (Cert.KernelIdeal.Gen.dats m 0 c).arrAt 4 Cert.KernelIdeal.cfg0.N,
    fun c => (Cert.KernelIdeal.Gen.dats m 0 c).arrAt 5 Cert.KernelIdeal.cfg0.N,
    fun c => (Cert.KernelIdeal.Gen.dats m 0 c).arrAt 6 Cert.KernelIdeal.cfg0.N,
    Cert.KernelIdeal.Value.run_blocks m g, ?_⟩
  refine (θ_run (Cert.ReferenceIdeal.defs (F := Ideal)) _ _).mono (fun r h c => ?_) (Cert.ReferenceIdeal.Out.run m' g')
  obtain ⟨r3, r4, r5, r6, k0, k1, k2⟩ := h c
  obtain ⟨h0, h1, h2⟩ := hargs c
  refine ⟨r3.trans ?_, r4.trans ?_, r5.trans ?_, r6.trans ?_, k0, k1, k2⟩
  · refine Eq.trans ?_ (Cert.KernelIdeal.Arrays.array3 m c).symm
    funext i
    exact congrArg (fun v => code v (i 1)) (hids_eq h0 h1 h2 (i 0))
  · refine Eq.trans ?_ (Cert.KernelIdeal.Arrays.array4 m c).symm
    funext i
    exact congrArg (fun v => scale v (i 1).val) (hids_eq h0 h1 h2 (i 0))
  · refine Eq.trans ?_ (Cert.KernelIdeal.Arrays.array5 m c).symm
    funext i
    exact congrArg (fun v => code v (i 1)) (rows_eq h0 (i 0))
  · refine Eq.trans ?_ (Cert.KernelIdeal.Arrays.array6 m c).symm
    funext i
    exact congrArg (fun v => scale v (i 1).val) (rows_eq h0 (i 0))

end Cert.Proof

end
-- ==== Proof.Field.lean ====
/- Counting powers of two reads the exponent field of a float.

   The kernel's `exponent_field` counts the powers `2^(-126), …, 2^125` that are at most `p`.  Of the number that a positive
   float32 word below `2^126` denotes, that count is the word's exponent field. -/
module

public import proofs.«01_k».proof.Proof.Quant

@[expose] public section

noncomputable section

namespace Cert.Quant

open Idealize.ShloMosaic

/-- A number from `2^(n-127)` up to but not including `2^(n-126)` has the count `n`. -/
theorem cnt_of_between (r : ℝ) (n : ℕ) (hn : n ≤ 252) (h1 : n = 0 ∨ (2 : ℝ) ^ ((n : ℤ) - 127) ≤ r) (h2 : r < (2 : ℝ) ^ ((n : ℤ) - 126)) :
    cnt (r : EReal) = n := by
  have key : ∀ l : Fin 252, pow2 ((l.val : ℤ) - 126) ≤ (r : EReal) ↔ l.val < n := by
    intro l
    unfold pow2
    rw [EReal.coe_le_coe_iff]
    constructor
    · intro h
      by_contra hc
      have hle : (2 : ℝ) ^ ((n : ℤ) - 126) ≤ (2 : ℝ) ^ ((l.val : ℤ) - 126) := zpow_le_zpow_right₀ (by norm_num) (by omega)
      exact absurd (hle.trans h) (not_le.2 h2)
    · intro h
      rcases h1 with h0 | h1
      · omega
      · exact (zpow_le_zpow_right₀ (by norm_num) (by omega)).trans h1
  unfold cnt
  rw [Finset.filter_congr fun l _ => key l, card_lt]
  omega

/-- The count of the number that a word denotes is the word's exponent field. -/
theorem cnt_ofBits (w : BitVec 32) (hs : (w.extractLsb' 31 1 == 1#1) = false) (he : (w.extractLsb' 23 8).toNat ≤ 252) :
    cnt (Ideal.ofBits .f32 w) = (w.extractLsb' 23 8).toNat := by
  have hf : (w.extractLsb' 0 23).toNat < 2 ^ 23 := (w.extractLsb' 0 23).isLt
  unfold Ideal.ofBits Ideal.ieee
  simp only [FTy.bits, Nat.reduceAdd]
  rw [hs]
  generalize (w.extractLsb' 23 8).toNat = n at he ⊢
  generalize (w.extractLsb' 0 23).toNat = f at hf ⊢
  have hf' : (f : ℝ) < 2 ^ 23 := by exact_mod_cast hf
  rw [if_neg (by omega)]
  simp only [Bool.false_eq_true, if_false, one_mul]
  by_cases h0 : n = 0
  · rw [if_pos h0]
    refine cnt_of_between _ n he (.inl h0) ?_
    subst h0
    rw [show ((1 : ℤ) - (2 ^ (8 - 1) - 1) - (23 : ℕ)) = (((0 : ℕ) : ℤ) - 126) - 23 by norm_num, zpow_sub₀ (by norm_num)]
    rw [mul_div_assoc', div_lt_iff₀ (by positivity), mul_comm]
    exact mul_lt_mul_of_pos_left (by exact_mod_cast hf) (by positivity)
  · rw [if_neg h0]
    have e : (((2 ^ 23 + f : ℕ) : ℝ) * (2 : ℝ) ^ ((n : ℤ) - (2 ^ (8 - 1) - 1) - (23 : ℕ)))
        = (1 + f / 2 ^ 23) * (2 : ℝ) ^ ((n : ℤ) - 127) := by
      rw [show ((n : ℤ) - (2 ^ (8 - 1) - 1) - (23 : ℕ)) = ((n : ℤ) - 127) - 23 by norm_num, zpow_sub₀ (by norm_num)]
      push_cast
      field_simp
      norm_num
    have hq : (f : ℝ) / 2 ^ 23 < 1 := by rw [div_lt_one (by positivity)]; exact hf'
    have hq0 : (0 : ℝ) ≤ (f : ℝ) / 2 ^ 23 := by positivity
    have hp : (0 : ℝ) < (2 : ℝ) ^ ((n : ℤ) - 127) := by positivity
    rw [e]
    refine cnt_of_between _ n he (.inr ?_) ?_
    · nlinarith
    · rw [show (n : ℤ) - 126 = ((n : ℤ) - 127) + 1 by ring, zpow_add_one₀ (by norm_num)]
      nlinarith

end Cert.Quant

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.KernelIdeal.Value
public import proofs.«01_k».proof.Proof.Algebraic
public import proofs.«01_k».proof.Proof.Field
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, fun m ρ _ => Cert.Kernel.Gen.frame m ρ, fun m ρ _ => Cert.KernelIdeal.Gen.frame m ρ, fun m ρ _ => Cert.ReferenceIdeal.Gen.frame m ρ, trivial, algebraic⟩

end Cert.Proof

end
